-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_on_clip_idle [hKernelIdeal : Cert.KernelIdeal.Facts] [hReferenceIdeal : Cert.ReferenceIdeal.Facts] [hOn_clip_idle : Cert.On_clip_idle.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 2048]⟩ : Shape).Idx, (Layout.block ⟨2, ![512, 2048]⟩ ⟨2, ![2048, 2048]⟩ 0 4 c ((Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![512, 2048]⟩ : Shape).Idx → _) i = 1#1 → r.2.mem ((c.tc : Thread Cert.KernelIdeal.nD Cert.KernelIdeal.τ).loc Cert.KernelIdeal.main_v1) i = (Layout.block ⟨2, ![512, 2048]⟩ ⟨2, ![2048, 2048]⟩ 0 4 c v0 : (⟨2, ![512, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 2048]⟩ : Shape).Idx, (Cert.On_clip_idle.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hOn_clip_idle : Cert.On_clip_idle.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_ReferenceIdeal_on_clip_idle (hKernelIdeal := hKernelIdeal) (hReferenceIdeal := hReferenceIdeal) (hOn_clip_idle := hOn_clip_idle)
    ∧ algebraic_KernelIdeal_UnclippedIdeal (hKernelIdeal := hKernelIdeal) (hUnclippedIdeal := hUnclippedIdeal)
-- ==== On_clip_idle.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S2048x2048 1 :=
  let main_v0 : FVec F S2048x2048 .f32 := (fun l r => Host.dotGeneral dot_S2048x2048_S2048x2048_S2048x2048_1_0_0_1_n_n none l r) main_arg0 main_arg1
  let main_v1 : FVec F S2048x2048 .f32 := Host.absf main_v0
  let main_cst : FVec F S_ .f32 := constant S_ .f32 0x42700000#32
  let main_v2 : FVec F S2048x2048 .f32 := broadcastInDim S2048x2048 ![] bcast_S_S2048x2048 main_cst
  let main_v3 : IVec S2048x2048 1 := cmpf .ole main_v1 main_v2
  main_v3
-- ==== Kernel.lean ====
abbrev S2048x512 : Shape := ⟨2, ![2048, 512]⟩
abbrev S512x2048 : Shape := ⟨2, ![512, 2048]⟩
abbrev S4x4x512x256 : Shape := ⟨4, ![4, 4, 512, 256]⟩
abbrev S4x3 : Shape := ⟨2, ![4, 3]⟩
abbrev S_ : Shape := ⟨0, ![]⟩
abbrev S512x512 : Shape := ⟨2, ![512, 512]⟩
abbrev S512x256 : Shape := ⟨2, ![512, 256]⟩
abbrev S1x1x512x256 : Shape := ⟨4, ![1, 1, 512, 256]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S512x2048, .f32⟩
  | .local _ .vmem, ⟨0, _⟩ => ⟨S2048x512, .f32⟩
  | .local _ .vmem, ⟨1, _⟩ => ⟨S512x2048, .f32⟩
  | .local _ .vmem, ⟨2, _⟩ => ⟨S512x2048, .f32⟩
  | .local _ .vmem, ⟨3, _⟩ => ⟨S4x4x512x256, .f32⟩
  | .local _ .vmem, ⟨4, _⟩ => ⟨S4x4x512x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c_m1_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c_m1_i32
  let c4_i32_19 : BitVec 32 := 4#32
  let c0_i32_20 : BitVec 32 := 0#32
  let v31 : BitVec 1 := Scalar.cmpi .eq c4_i32_19 c0_i32_20
  let c1_i32_21 : BitVec 32 := 1#32
  let v32 : BitVec 32 := Scalar.select v31 c1_i32_21 c4_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c512_i32 : BitVec 32 := 512#32
  let v41 : BitVec 32 := Scalar.muli v40 c512_i32
  let v42 : Index := Scalar.indexCast v41
  let c0 : Index := 0#32
  ![v42.toNat, 0]
def k0_off1_at (r : Fin 8) : BitVec 32 :=
  if r.val < 4 then
    if r.val < 2 then
      if r.val < 1 then
        4294967295#32
      else
        1#32
    else
      if r.val < 3 then
        4294967294#32
      else
        2#32
  else
    if r.val < 6 then
      if r.val < 5 then
        4294967293#32
      else
        3#32
    else
      if r.val < 7 then
        4294967292#32
      else
        4#32
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v51 : BitVec 32 := Scalar.muli v24 c1_i32_39
  let v52 : BitVec 32 := Scalar.addi c0_i32_40 v51
  v52.toNat
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_68 : BitVec 32 := 1#32
  let v82 : BitVec 32 := Scalar.muli v13 c1_i32_68
  let v83 : BitVec 32 := Scalar.addi c0_i32_69 v82
  v83.toNat
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_96 : BitVec 32 := 1#32
  let v113 : BitVec 32 := Scalar.muli v24 c1_i32_96
  let v114 : BitVec 32 := Scalar.addi c0_i32_97 v113
  v114.toNat
def k0_dev6 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_125 : BitVec 32 := 1#32
  let v144 : BitVec 32 := Scalar.muli v13 c1_i32_125
  let v145 : BitVec 32 := Scalar.addi c0_i32_126 v144
  v145.toNat
def k0_dev7 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_153 : BitVec 32 := 1#32
  let v175 : BitVec 32 := Scalar.muli v24 c1_i32_153
  let v176 : BitVec 32 := Scalar.addi c0_i32_154 v175
  v176.toNat
def k0_dev8 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_182 : BitVec 32 := 1#32
  let v206 : BitVec 32 := Scalar.muli v13 c1_i32_182
  let v207 : BitVec 32 := Scalar.addi c0_i32_183 v206
  v207.toNat
def k0_dev9 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_209 : BitVec 32 := 1#32
  let v237 : BitVec 32 := Scalar.muli v24 c1_i32_209
  let v238 : BitVec 32 := Scalar.addi c0_i32_210 v237
  v238.toNat
def k0_dev10 (d0 : Dev nD) : Nat :=
  let c0_i32_239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_238 : BitVec 32 := 1#32
  let v268 : BitVec 32 := Scalar.muli v13 c1_i32_238
  let v269 : BitVec 32 := Scalar.addi c0_i32_239 v268
  v269.toNat
def k0_dev11 (d0 : Dev nD) : Nat :=
  let c0_i32_286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_285 : BitVec 32 := 1#32
  let v310 : BitVec 32 := Scalar.muli v24 c1_i32_285
  let v311 : BitVec 32 := Scalar.addi c0_i32_286 v310
  v311.toNat
def k0_dev12 (d0 : Dev nD) : Nat :=
  let c0_i32_334 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_333 : BitVec 32 := 1#32
  let v352 : BitVec 32 := Scalar.muli v13 c1_i32_333
  let v353 : BitVec 32 := Scalar.addi c0_i32_334 v352
  v353.toNat
def k0_dev13 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_381 : BitVec 32 := 1#32
  let v394 : BitVec 32 := Scalar.muli v24 c1_i32_381
  let v395 : BitVec 32 := Scalar.addi c0_i32_382 v394
  v395.toNat
def k0_dev14 (d0 : Dev nD) : Nat :=
  let c0_i32_430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_429 : BitVec 32 := 1#32
  let v436 : BitVec 32 := Scalar.muli v13 c1_i32_429
  let v437 : BitVec 32 := Scalar.addi c0_i32_430 v436
  v437.toNat
def k0_dev15 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_477 : BitVec 32 := 1#32
  let v478 : BitVec 32 := Scalar.muli v24 c1_i32_477
  let v479 : BitVec 32 := Scalar.addi c0_i32_478 v478
  v479.toNat
def k0_dev16 (d0 : Dev nD) : Nat :=
  let c0_i32_526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_525 : BitVec 32 := 1#32
  let v520 : BitVec 32 := Scalar.muli v13 c1_i32_525
  let v521 : BitVec 32 := Scalar.addi c0_i32_526 v520
  v521.toNat
def k0_dev17 (d0 : Dev nD) : Nat :=
  let c0_i32_574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_573 : BitVec 32 := 1#32
  let v562 : BitVec 32 := Scalar.muli v24 c1_i32_573
  let v563 : BitVec 32 := Scalar.addi c0_i32_574 v562
  v563.toNat
def k0_dev18 (d0 : Dev nD) : Nat :=
  let c0_i32_622 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_621 : BitVec 32 := 1#32
  let v604 : BitVec 32 := Scalar.muli v13 c1_i32_621
  let v605 : BitVec 32 := Scalar.addi c0_i32_622 v604
  v605.toNat
def k0_dev19 (d0 : Dev nD) : Nat :=
  let c0_i32_669 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_668 : BitVec 32 := 1#32
  let v646 : BitVec 32 := Scalar.muli v24 c1_i32_668
  let v647 : BitVec 32 := Scalar.addi c0_i32_669 v646
  v647.toNat
def k0_dev20 (d0 : Dev nD) : Nat :=
  let c0_i32_717 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_716 : BitVec 32 := 1#32
  let v688 : BitVec 32 := Scalar.muli v13 c1_i32_716
  let v689 : BitVec 32 := Scalar.addi c0_i32_717 v688
  v689.toNat
def k0_dev21 (d0 : Dev nD) : Nat :=
  let c0_i32_765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_764 : BitVec 32 := 1#32
  let v730 : BitVec 32 := Scalar.muli v24 c1_i32_764
  let v731 : BitVec 32 := Scalar.addi c0_i32_765 v730
  v731.toNat
def k0_dev22 (d0 : Dev nD) : Nat :=
  let c0_i32_813 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_812 : BitVec 32 := 1#32
  let v772 : BitVec 32 := Scalar.muli v13 c1_i32_812
  let v773 : BitVec 32 := Scalar.addi c0_i32_813 v772
  v773.toNat
def k0_dev23 (d0 : Dev nD) : Nat :=
  let c0_i32_861 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_860 : BitVec 32 := 1#32
  let v814 : BitVec 32 := Scalar.muli v24 c1_i32_860
  let v815 : BitVec 32 := Scalar.addi c0_i32_861 v814
  v815.toNat
def k0_dev24 (d0 : Dev nD) : Nat :=
  let c0_i32_909 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_908 : BitVec 32 := 1#32
  let v856 : BitVec 32 := Scalar.muli v13 c1_i32_908
  let v857 : BitVec 32 := Scalar.addi c0_i32_909 v856
  v857.toNat
def k0_dev25 (d0 : Dev nD) : Nat :=
  let c0_i32_957 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_956 : BitVec 32 := 1#32
  let v898 : BitVec 32 := Scalar.muli v24 c1_i32_956
  let v899 : BitVec 32 := Scalar.addi c0_i32_957 v898
  v899.toNat
def k0_dev26 (d0 : Dev nD) : Nat :=
  let c0_i32_1005 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1004 : BitVec 32 := 1#32
  let v940 : BitVec 32 := Scalar.muli v13 c1_i32_1004
  let v941 : BitVec 32 := Scalar.addi c0_i32_1005 v940
  v941.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Common.lean ====
/-
  The ring of the fused matmul and reduce-scatter, once for any float values `F`.

  Four devices stand in a ring. Each owns one block of the inner dimension, so that its local product is a
  partial sum of the whole result, and is to end with its own rows of the complete sum. The result's
  columns are cut into eight pieces, four carried rightwards and four leftwards: a piece is a pair of a
  direction and a number below four. A partial sum of a piece makes three hops, and at each device it
  reaches that device's own product is added.

  This module fixes the directions, the hops, the slots and semaphores they use, the contents each slot
  holds, and the schedule: who pays which semaphore, and what the payment hands over.
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Pipeline.BigSepL
public import Idealize.ShloMosaic.Lib.Memref

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's own, with duties `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Directions: `false` carries rightwards, to the next device, `true` leftwards -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

/-- The device that `c` sends to in direction `d`. -/
def tgt (d : Bool) (c : Dev nD) : Dev nD := if d then prv c else nxt c
/-- The device that `c` receives from in direction `d`. -/
def src (d : Bool) (c : Dev nD) : Dev nD := if d then nxt c else prv c

theorem src_tgt (d : Bool) (c : Dev nD) : src d (tgt d c) = c := by revert d c; decide
theorem tgt_src (d : Bool) (c : Dev nD) : tgt d (src d c) = c := by revert d c; decide

/-- Sending in direction `d`, as a bijection of the devices. -/
def turn (d : Bool) : Dev nD ≃ Dev nD := ⟨tgt d, src d, src_tgt d, tgt_src d⟩

/-- The rows of the result that the partial sum on device `c` is destined for, `s` hops after its start. -/
def chunk (d : Bool) : ℕ → Dev nD → Dev nD
  | 0, c => src d c
  | s + 1, c => chunk d s (src d c)

/-- After three hops the partial sum has reached the device whose rows it holds. -/
theorem chunk_last (d : Bool) (c : Dev nD) : chunk d 3 c = c := by revert d c; decide

/-! ## Hops, slots and semaphores -/

/-- One hop: the direction, the piece's number, and which of the three hops of that piece it is. -/
abbrev Hop : Type := Bool × Fin 4 × Fin 3

abbrev xM : Memref sig .tc .vmem S2048x512 .f32 := Memref.whole cc0_stg0_0
abbrev wM : Memref sig .tc .vmem S512x2048 .f32 := Memref.whole cc0_stg1_0
abbrev oM : Memref sig .tc .vmem S512x2048 .f32 := Memref.whole cc0_stg2_0

/-- The buffer of the slots of one direction. -/
def commM : Bool → Memref sig .tc .vmem S4x4x512x256 .f32
  | false => Memref.whole cc0_scratch0
  | true => Memref.whole cc0_scratch1

theorem slot_inb (b s : Fin 4) : ∀ a, (![b.val, s.val, 0, 0] : Fin 4 → ℕ) a + S1x1x512x256.size a ≤ S4x4x512x256.size a := by
  revert b s; decide

/-- The slot's place in its buffer. -/
abbrev slotR (b s : Fin 4) : Rect S4x4x512x256 := Rect.unit (s := S4x4x512x256) ![b.val, s.val, 0, 0] S1x1x512x256.size (slot_inb b s)

/-- The slot of piece `b` after `s` hops, in the buffer `C`. -/
abbrev slotOf (C : Memref sig .tc .vmem S4x4x512x256 .f32) (b s : Fin 4) : Memref sig .tc .vmem S512x256 .f32 :=
  (C.slice (slotR b s) (fun _ => rfl)).squeeze S512x256 squeezes_S1x1x512x256_S512x256

/-- The slot of piece `b` after `s` hops, in direction `d`. -/
abbrev slotM (d : Bool) (b s : Fin 4) : Memref sig .tc .vmem S512x256 .f32 := slotOf (commM d) b s

theorem semIx_lt (k : Bool) (h : Hop) : 3 + 24 * h.1.toNat + 12 * k.toNat + 3 * h.2.1.val + h.2.2.val < 51 := by
  revert k h; decide

/-- The semaphore of a hop: `k = false` the one that counts the sending, `k = true` the one that counts the arrival. -/
def hopSem (k : Bool) (h : Hop) : DmaSem sig := ⟨3 + 24 * h.1.toNat + 12 * k.toNat + 3 * h.2.1.val + h.2.2.val, semIx_lt k h⟩

/-- The hop and the kind that a transfer semaphore's number names, if it is one of the ring's. -/
def hopOf (n : ℕ) : Option (Bool × Hop) :=
  if n < 3 then none
  else some ((n - 3) / 12 % 2 = 1, (n - 3) / 24 = 1, ⟨(n - 3) % 12 / 3, by omega⟩, ⟨(n - 3) % 3, by omega⟩)

theorem hopOf_hopSem (k : Bool) (h : Hop) : hopOf (hopSem k h).val = some (k, h) := by
  revert k h; decide

abbrev barS : Sem sig := (SemArray.scalar (sig.barrier 0 rfl) : Sems sig S_).sem

abbrev barCell (c : Dev nD) : GSem nD τ sig := ((c : Thread nD τ), .reg barS)
abbrev hopCell (c : Dev nD) (k : Bool) (h : Hop) : GSem nD τ sig := ((c : Thread nD τ), .dma (hopSem k h))

/-- The units one transfer of a slot counts. -/
abbrev N : ℕ := (slotM false 0 0).view.dmaCredit
theorem N_pos : 0 < N := View.dmaCredit_pos _ (by decide)
theorem credit_eq (d : Bool) (b s : Fin 4) : (slotM d b s).view.dmaCredit = N := by cases d <;> rfl

/-! ## Contents -/

/-- Device `c`'s columns of `x`, staged. -/
def xstg (c : Dev nD) : (cc0_stg0_0 : Ref sig .tc).ty.Contents (Elt F) :=
  (win0_0.blk (0 : Fin 1)).view.read (Elt F) (m ((c : Thread nD τ).loc main_arg0))
/-- Device `c`'s rows of `w`, staged. -/
def wstg (c : Dev nD) : (cc0_stg1_0 : Ref sig .tc).ty.Contents (Elt F) :=
  (win0_1.blk (0 : Fin 1)).view.read (Elt F) (m ((c : Thread nD τ).loc main_arg1))

theorem xblk_inb (k : Dev nD) : ∀ a, (![512 * k.val, 0] : Fin 2 → ℕ) a + S512x512.size a ≤ S2048x512.size a := by
  revert k; decide

/-- The first column of a piece. -/
def col (d : Bool) (b : Fin 4) : ℕ := 1024 * d.toNat + 256 * b.val

theorem wblk_inb (d : Bool) (b : Fin 4) : ∀ a, (![0, col d b] : Fin 2 → ℕ) a + S512x256.size a ≤ S512x2048.size a := by
  revert d b; decide

abbrev xR (k : Dev nD) : Rect S2048x512 := Rect.unit (s := S2048x512) ![512 * k.val, 0] S512x512.size (xblk_inb k)
abbrev wR (d : Bool) (b : Fin 4) : Rect S512x2048 := Rect.unit (s := S512x2048) ![0, col d b] S512x256.size (wblk_inb d b)

/-- The rows of device `c`'s `x` destined for device `k`. -/
def xblk (c k : Dev nD) : Vec F S512x512 .f32 := xM.view.readAt (Elt F) (xR k).toLoadRect (xstg m c)
/-- The columns of a piece in device `c`'s `w`. -/
def wblk (c : Dev nD) (d : Bool) (b : Fin 4) : Vec F S512x256 .f32 := wM.view.readAt (Elt F) (wR d b).toLoadRect (wstg m c)

/-- The partial sum of piece `(d, b)` on device `c` after `s` hops, its own product added. -/
def acc (d : Bool) (b : Fin 4) : ℕ → Dev nD → FVec F S512x256 .f32
  | 0, c => k0_pay9 (xblk m c (chunk d 0 c)) (wblk m c d b)
  | s + 1, c => addf (acc d b s (src d c)) (k0_pay9 (xblk m c (chunk d (s + 1) c)) (wblk m c d b))

/-- The activation: a value times its logistic. -/
def silu (y : FVec F S512x256 .f32) : FVec F S512x256 .f32 := mulf y (logistic y)

/-- Element `(i, j)` of the result lies in direction `j / 1024`, piece `j % 1024 / 256`, column `j % 256`. -/
def outAt (c : Dev nD) : (cc0_stg2_0 : Ref sig .tc).ty.Contents (Elt F) := fun (i : S512x2048.Idx) =>
  silu (acc m (decide (1024 ≤ (i 1).val)) ⟨(i 1).val % 1024 / 256, by omega⟩ 3 c)
    (fun a => match a with
      | ⟨0, _⟩ => i 0
      | ⟨1, _⟩ => ⟨(i 1).val % 256, Nat.mod_lt _ (by decide)⟩)

/-! ## Assertions -/

/-- Device `c` holds a view's elements, at some contents. -/
def holds (c : Dev nD) {sh : Shape} (v : View sig .tc .vmem sh .f32) : sProp 𝕄 :=
  iprop(∃ f : Buf (Elt F) (v.loc (c : Thread nD τ)), v.loc (c : Thread nD τ) ↦[v.set]{fullShare} f)

/-- Device `c` holds a view's elements, and the view reads `u`. -/
def holdsAt (c : Dev nD) {sh : Shape} (v : View sig .tc .vmem sh .f32) (u : FVec F sh .f32) : sProp 𝕄 :=
  iprop(∃ f : Buf (Elt F) (v.loc (c : Thread nD τ)), ⌜v.read (Elt F) f = u⌝ ∗ (v.loc (c : Thread nD τ) ↦[v.set]{fullShare} f))

omit [FloatOps F] in
instance holds_storable (c : Dev nD) {sh : Shape} (v : View sig .tc .vmem sh .f32) : BI.Storable (upEmb : UEmb _ 𝕄) (holds (F := F) c v) := by
  unfold holds; infer_instance
omit [FloatOps F] in
instance holdsAt_storable (c : Dev nD) {sh : Shape} (v : View sig .tc .vmem sh .f32) (u : FVec F sh .f32) :
    BI.Storable (upEmb : UEmb _ 𝕄) (holdsAt c v u) := by
  unfold holdsAt; infer_instance

omit [FloatOps F] in
theorem holdsAt_holds (c : Dev nD) {sh : Shape} (v : View sig .tc .vmem sh .f32) (u : FVec F sh .f32) : holdsAt c v u ⊢ holds c v := by
  unfold holdsAt holds; iintro ⟨%f, -, H⟩; iexists f; iexact H

abbrev slotAny (c : Dev nD) (d : Bool) (b s : Fin 4) : sProp 𝕄 := holds (F := F) c (slotM d b s).view
abbrev slotAt (c : Dev nD) (d : Bool) (b s : Fin 4) (u : FVec F S512x256 .f32) : sProp 𝕄 := holdsAt c (slotM d b s).view u

def xPts (c : Dev nD) : sProp 𝕄 := xM.view.loc (c : Thread nD τ) ↦[xM.view.set]{fullShare} xstg m c
def wPts (c : Dev nD) : sProp 𝕄 := wM.view.loc (c : Thread nD τ) ↦[wM.view.set]{fullShare} wstg m c

omit [FloatOps F] in
theorem xPts_eq (c : Dev nD) : xPts m c = (((c : Thread nD τ).loc cc0_stg0_0) ↦{fullShare} xstg m c : sProp 𝕄) := by
  unfold xPts; rw [View.set_whole]
omit [FloatOps F] in
theorem wPts_eq (c : Dev nD) : wPts m c = (((c : Thread nD τ).loc cc0_stg1_0) ↦{fullShare} wstg m c : sProp 𝕄) := by
  unfold wPts; rw [View.set_whole]

/-! ## The schedule -/

/-- What the device that `c` sends to in direction `d` hands `c` at the barrier: its slots that `c`'s hops land in. -/
def barPay (c : Dev nD) (d : Bool) : sProp 𝕄 :=
  bigSep (Finset.univ : Finset (Fin 4 × Fin 3)) fun p => slotAny (tgt d c) d p.1 p.2.succ

/-- What the end of a hop's sending hands back: the slot sent from, still holding the partial sum; and what its arrival
    hands over: the slot landed in, holding the sender's partial sum. -/
def hopPay (c : Dev nD) (k : Bool) (h : Hop) : sProp 𝕄 :=
  if k then slotAt c h.1 h.2.1 h.2.2.succ (acc m h.1 h.2.1 h.2.2.val (src h.1 c))
  else slotAt c h.1 h.2.1 h.2.2.castSucc (acc m h.1 h.2.1 h.2.2.val c)

omit [FloatOps F] in
instance barPay_storable (c : Dev nD) (d : Bool) : BI.Storable (upEmb : UEmb _ 𝕄) (barPay (F := F) c d) := by
  unfold barPay; infer_instance
instance hopPay_storable (c : Dev nD) (k : Bool) (h : Hop) : BI.Storable (upEmb : UEmb _ 𝕄) (hopPay m c k h) := by
  unfold hopPay; split <;> infer_instance

/-- The duties of one semaphore: the barrier is paid by both neighbours, a hop's semaphore once. -/
def dutiesOf : SemLoc sig → Finset Bool
  | .reg _ => Finset.univ
  | .dma q => if (hopOf q.val).isSome then {false} else ∅

/-- What one payment hands over. -/
def payOf (c : Dev nD) (d : Bool) : SemLoc sig → sProp 𝕄
  | .reg _ => barPay c d
  | .dma q => match hopOf q.val with
    | none => iprop(emp)
    | some p => hopPay m c p.1 p.2

/-- The units of one payment. -/
def amountOf : SemLoc sig → ℕ
  | .reg _ => 1
  | .dma _ => N

/-- One round, round 0, at every cell. -/
def ringRd : Rounds.Schedule (GSem nD τ sig) Bool 𝕄 where
  duties g r := if r = 0 ∧ g.1.2 = .tc then dutiesOf g.2 else ∅
  unitless _ := False
  amount g _ _ := amountOf g.2
  payload g _ d := payOf m g.1.1 d g.2
  amount_pos g _ _ _ := by
    cases g.2
    · exact Nat.one_pos
    · exact N_pos

instance ringRd_payload_storable (g : GSem nD τ sig) (r : ℕ) (d : Bool) :
    BI.Storable (upEmb : UEmb _ 𝕄) ((ringRd m).payload g r d) := by
  show BI.Storable upEmb (payOf m g.1.1 d g.2)
  unfold payOf
  (repeat' split) <;> infer_instance

section Sched
variable (c : Dev nD) (k : Bool) (h : Hop)

theorem duties_bar : (ringRd m).duties (barCell c) 0 = Finset.univ := by dsimp only [ringRd]; exact if_pos ⟨rfl, rfl⟩
theorem duties_hop : (ringRd m).duties (hopCell c k h) 0 = {false} := by
  dsimp only [ringRd, dutiesOf]; rw [if_pos ⟨rfl, rfl⟩, hopOf_hopSem]; rfl
theorem duties_later (g : GSem nD τ sig) : ∀ r, 1 ≤ r → (ringRd m).duties g r = ∅ :=
  fun r hr => by dsimp only [ringRd]; rw [if_neg fun h => by omega]

theorem amount_bar (d : Bool) : (ringRd m).amount (barCell c) 0 d = 1 := rfl
theorem amount_hop (d : Bool) : (ringRd m).amount (hopCell c k h) 0 d = N := rfl

theorem expect_bar : (ringRd m).expect (barCell c) 0 = 2 := by
  unfold Schedule.expect Schedule.amountOf
  rw [duties_bar, Finset.sum_congr rfl fun d _ => amount_bar m c d, Finset.sum_const, Finset.card_univ, Fintype.card_bool, smul_eq_mul]
theorem expect_hop : (ringRd m).expect (hopCell c k h) 0 = N := by
  unfold Schedule.expect Schedule.amountOf; rw [duties_hop, Finset.sum_singleton, amount_hop]

theorem payload_bar (d : Bool) : (ringRd m).payload (barCell c) 0 d = barPay c d := rfl
theorem payload_hop (d : Bool) : (ringRd m).payload (hopCell c k h) 0 d = hopPay m c k h := by
  dsimp only [ringRd, payOf]; rw [hopOf_hopSem]

theorem rest_bar : bigSep ((ringRd m).duties (barCell c) 0 \ ∅) (fun d => (ringRd m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_hop : bigSep ((ringRd m).duties (hopCell c k h) 0 \ ∅) (fun d => (ringRd m).payload (hopCell c k h) 0 d) = hopPay m c k h := by
  rw [Finset.sdiff_empty, duties_hop, bigSep_singleton, payload_hop]

end Sched

/-! ## What each device owes, and the levels -/

/-- The eight pieces in the order a device works on them. -/
def pieces : List (Bool × Fin 4) := [(false, 0), (true, 0), (false, 1), (true, 1), (false, 2), (true, 2), (false, 3), (true, 3)]

/-- Hop number `s` of every piece. -/
def round (s : Fin 3) : List Hop := pieces.map fun p => (p.1, p.2, s)

/-- The hops in the order a device sends them. -/
def hopList : List Hop := round 0 ++ (round 1 ++ round 2)

/-- What device `c` owes for the arrivals of the hops of a list, the head on the outside. -/
def owed (c : Dev nD) : List Hop → CellTallies nD τ sig Unit
  | [] => 0
  | h :: l => owed c l + tallyAt (hopCell (tgt h.1 c) true h) () N

/-- What device `c` owes at launch: its hops' arrivals, and one unit to each neighbour's barrier. -/
def O₁ (c : Dev nD) : CellTallies nD τ sig Unit := owed c hopList + tallyAt (barCell (src true c)) () 1
def O₀ (c : Dev nD) : CellTallies nD τ sig Unit := O₁ c + tallyAt (barCell (src false c)) () 1

def L (g : GSem nD τ sig) : Finset Unit := if g.1.2 = .tc then {()} else ∅

/-- The level of a semaphore: staging and sending 0, the barrier 1, the arrival of hop number `s` at `2 + s`. -/
def lvOf : SemLoc sig → ℕ
  | .reg _ => 1
  | .dma q => match hopOf q.val with
    | none => 0
    | some p => if p.1 then 2 + p.2.2.2.val else 0

def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_hop (c : Dev nD) (k : Bool) (h : Hop) : lv (hopCell c k h) () = if k then 2 + h.2.2.val else 0 := by
  dsimp only [lv, lvOf]; rw [hopOf_hopSem]

/-- Only the arrivals of the list's hops are owed. -/
theorem owed_pos {c : Dev nD} {l : List Hop} {g : GSem nD τ sig} {u : Unit} (h : 0 < owed c l g u) :
    ∃ h ∈ l, g = hopCell (tgt h.1 c) true h := by
  induction l with
  | nil => exact absurd h (Nat.lt_irrefl 0)
  | cons a l ih =>
    unfold owed at h
    rw [Pi.add_apply, Finsupp.add_apply, tallyAt_apply] at h
    by_cases hg : g = hopCell (tgt a.1 c) true a
    · exact ⟨a, List.mem_cons_self, hg⟩
    · rw [if_neg fun h' => hg h'.1, Nat.add_zero] at h
      obtain ⟨a', ha', hg'⟩ := ih h
      exact ⟨a', List.mem_cons_of_mem _ ha', hg'⟩

omit [FloatOps F] in
/-- A device may wait at a cell below the arrivals it still owes. -/
theorem mayWait_owed (c : Dev nD) (sm : SemLoc sig) (l : List Hop) (hl : ∀ h ∈ l, lv ((c : Thread nD τ), sm) () < 2 + h.2.2.val) :
    (levAts L lv : sProp 𝕄) ⊢ MayWait (c : Thread nD τ) sm () (owed c l) :=
  Pipeline.mayWait_of_levAts (by rw [L_tc]; exact Finset.mem_singleton_self _) fun g i hg => by
    obtain ⟨h, hh, rfl⟩ := owed_pos hg
    exact ⟨by rw [L_tc]; exact Finset.mem_singleton_self _, by
      have := lv_hop (tgt h.1 c) true h
      rw [if_pos rfl] at this
      exact lt_of_lt_of_eq (hl h hh) this.symm⟩

theorem O₀_pos {c : Dev nD} {g : GSem nD τ sig} {u : Unit} (h : 0 < O₀ c g u) :
    (∃ h : Hop, g = hopCell (tgt h.1 c) true h) ∨ ∃ d, g = barCell (src d c) := by
  unfold O₀ O₁ at h
  rw [Pi.add_apply, Finsupp.add_apply, Pi.add_apply, Finsupp.add_apply, tallyAt_apply, tallyAt_apply] at h
  by_contra hn
  rw [not_or, not_exists, not_exists] at hn
  rw [if_neg (fun h' => hn.2 _ h'.1), if_neg (fun h' => hn.2 _ h'.1)] at h
  obtain ⟨a, -, ha⟩ := owed_pos (show 0 < owed c hopList g u from h)
  exact hn.1 a ha

omit [FloatOps F] in
/-- A staging semaphore, at level 0, may be waited on with everything still owed, or with nothing owed. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have hz : lv ((c : Thread nD τ), .dma q) () = 0 := by dsimp only [lv, lvOf]; rw [hopOf, if_pos hq]
  rcases hO with rfl | rfl
  · refine Pipeline.mayWait_of_levAts (by rw [L_tc]; exact Finset.mem_singleton_self _) fun g i hg => ?_
    rw [hz]
    rcases O₀_pos hg with ⟨h, rfl⟩ | ⟨d, rfl⟩
    · exact ⟨by rw [L_tc]; exact Finset.mem_singleton_self _, by rw [lv_hop, if_pos rfl]; omega⟩
    · exact ⟨by rw [L_tc]; exact Finset.mem_singleton_self _, Nat.one_pos⟩
  · rw [MayWait_zero]; iintro -; iempintro

end Cert.Ring

end
-- ==== Proof.Slots.lean ====
/-
  Loads and stores of a slot, and of the staged inputs and result, as steps of a program: what a load
  gives and what a store leaves, once for every slot and every piece.
-/
module

public import proofs.«01_k».proof.Proof.Common

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The rest of one device's body, run to the postcondition `Q`. -/
abbrev wpAt {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## A slot -/

omit [FloatOps F] in
/-- Putting two unit axes in front and dropping them again changes nothing. -/
theorem cast_cast (u : FVec F S512x256 .f32) :
    shapeCast S512x256 (shapeCast S1x1x512x256 u shapeCasts_S512x256_S1x1x512x256) shapeCasts_S1x1x512x256_S512x256 = u := by
  funext j
  show u (Shape.reshapeEquiv _ (Shape.reshapeEquiv _ j)) = u j
  rw [Shape.reshapeEquiv_reshapeEquiv, Shape.reshapeEquiv_self]

omit [FloatOps F] in
/-- Dropping two unit axes and putting them in front again changes nothing. -/
theorem cast_cast' (z : FVec F S1x1x512x256 .f32) :
    shapeCast S1x1x512x256 (shapeCast S512x256 z shapeCasts_S1x1x512x256_S512x256) shapeCasts_S512x256_S1x1x512x256 = z := by
  funext j
  show z (Shape.reshapeEquiv _ (Shape.reshapeEquiv _ j)) = z j
  rw [Shape.reshapeEquiv_reshapeEquiv, Shape.reshapeEquiv_self]

section Views
variable (c : Dev nD) (v : View sig .tc .vmem S1x1x512x256 .f32) (h : S512x256.numel = S1x1x512x256.numel)

omit [FloatOps F] in
/-- Holding a view with its two leading unit axes dropped is holding it. -/
theorem holds_reshape : holds (F := F) c (v.reshape S512x256 h) = holds c v := by
  unfold holds
  rw [View.set_reshape]

omit [FloatOps F] in
/-- The same at known contents: the view reads `u` with two unit axes in front. -/
theorem holdsAt_reshape (u : FVec F S512x256 .f32) :
    holdsAt c (v.reshape S512x256 h) u = holdsAt c v (shapeCast S1x1x512x256 u shapeCasts_S512x256_S1x1x512x256) := by
  have key : ∀ f : Buf (Elt F) (v.loc (c : Thread nD τ)), ((v.reshape S512x256 h).read (Elt F) f = u)
      = (v.read (Elt F) f = shapeCast S1x1x512x256 u shapeCasts_S512x256_S1x1x512x256) := fun f => by
    have hr : (v.reshape S512x256 h).read (Elt F) f = shapeCast S512x256 (v.read (Elt F) f) shapeCasts_S1x1x512x256_S512x256 := rfl
    rw [hr]
    exact propext ⟨fun e => by rw [← e, cast_cast'], fun e => by rw [e, cast_cast]⟩
  unfold holdsAt
  rw [View.set_reshape]
  exact congrArg _ (funext fun f => by rw [key f])

end Views

section Steps
variable (c : Dev nD)

/-- Loading the elements a view holds gives what the view reads. -/
theorem load_at {α : Type} {Q : α → sProp 𝕄} {sh : Shape} (C : Memref sig .tc .vmem sh .f32) (r : Rect sh)
    (u : FVec F r.shape .f32) {hl : C.view.LoadsAt r.toLoadRect} {k : (r.shape.Idx → Elt F .f32) → Prog (TpuEff nD τ sig (Elt F) Λ₀ .tc) α} :
    holdsAt c (C.access r) u ⊢ iprop((holdsAt c (C.access r) u -∗ wpAt c (k u) Q) -∗ wpAt c (.op (.load C r.toLoadRect hl) k) Q) := by
  unfold holdsAt
  iintro ⟨%f, %hf, H⟩ Hk
  iapply (wp_load_rect (Val := Elt F) 𝒱₀ (c : Thread nD τ) none Set.univ (m := C) (r := r) (Finset.Subset.refl _)) $$ H
  iintro H
  subst hf
  iapply Hk
  iexists f
  isplitr; · ipureintro; rfl
  iexact H

/-- Loading elements whose contents are not known leaves them as they are. -/
theorem load_any {α : Type} {Q : α → sProp 𝕄} {sh : Shape} (C : Memref sig .tc .vmem sh .f32) (r : Rect sh)
    {hl : C.view.LoadsAt r.toLoadRect} {k : (r.shape.Idx → Elt F .f32) → Prog (TpuEff nD τ sig (Elt F) Λ₀ .tc) α} :
    holds c (C.access r) ⊢ iprop((∀ z, holds c (C.access r) -∗ wpAt c (k z) Q) -∗ wpAt c (.op (.load C r.toLoadRect hl) k) Q) := by
  unfold holds
  iintro ⟨%f, H⟩ Hk
  iapply (wp_load_rect (Val := Elt F) 𝒱₀ (c : Thread nD τ) none Set.univ (m := C) (r := r) (Finset.Subset.refl _)) $$ H
  iintro H
  iapply Hk
  iexists f
  iexact H

/-- Storing `u` over the elements a view holds leaves the view reading `u`. -/
theorem store_at {α : Type} {Q : α → sProp 𝕄} {sh : Shape} (C : Memref sig .tc .vmem sh .f32) (r : Rect sh)
    (u : FVec F r.shape .f32) {hx : (C.access r).Stores Finset.univ} {hm : (Finset.univ : Finset r.shape.Idx) = Finset.univ ∨ ∀ a, r.stride a = 1}
    {k : PUnit → Prog (TpuEff nD τ sig (Elt F) Λ₀ .tc) α} :
    holds c (C.access r) ⊢ iprop((holdsAt c (C.access r) u -∗ wpAt c (k ⟨⟩) Q)
      -∗ wpAt c (.op (.store C r u Finset.univ hx hm) k) Q) := by
  unfold holds holdsAt
  iintro ⟨%f, H⟩ Hk
  iapply (wp_store (Val := Elt F) 𝒱₀ (c : Thread nD τ) none Set.univ (m := C) (r := r) (Mk := Finset.univ) (S := (C.access r).set)
    (Finset.Subset.refl _)) $$ H
  iintro H
  iapply Hk
  iexists ((C.access r).write (Elt F) f u Finset.univ)
  isplitr; · ipureintro; exact View.read_write_univ (Val := Elt F) (v := C.access r) f u
  iexact H

/-- Loading a slot held at `u` gives `u`, with two unit axes in front. -/
theorem load_slot {α : Type} {Q : α → sProp 𝕄} (C : Memref sig .tc .vmem S4x4x512x256 .f32) (b s : Fin 4) (u : FVec F S512x256 .f32)
    {hl : C.view.LoadsAt (slotR b s).toLoadRect} {k : (S1x1x512x256.Idx → Elt F .f32) → Prog (TpuEff nD τ sig (Elt F) Λ₀ .tc) α} :
    holdsAt c (slotOf C b s).view u
      ⊢ iprop((holdsAt c (slotOf C b s).view u -∗ wpAt c (k (shapeCast S1x1x512x256 u shapeCasts_S512x256_S1x1x512x256)) Q)
      -∗ wpAt c (.op (.load C (slotR b s).toLoadRect hl) k) Q) := by
  rw [holdsAt_reshape c (C.access (slotR b s))]
  exact load_at c C (slotR b s) _

/-- Loading a slot whose contents are not known leaves it as it is. -/
theorem load_slot_any {α : Type} {Q : α → sProp 𝕄} (C : Memref sig .tc .vmem S4x4x512x256 .f32) (b s : Fin 4)
    {hl : C.view.LoadsAt (slotR b s).toLoadRect} {k : (S1x1x512x256.Idx → Elt F .f32) → Prog (TpuEff nD τ sig (Elt F) Λ₀ .tc) α} :
    holds c (slotOf C b s).view ⊢ iprop((∀ z, holds c (slotOf C b s).view -∗ wpAt c (k z) Q)
      -∗ wpAt c (.op (.load C (slotR b s).toLoadRect hl) k) Q) := by
  rw [holds_reshape c (C.access (slotR b s))]
  exact load_any c C (slotR b s)

/-- Storing `u`, with two unit axes in front, over a slot leaves the slot at `u`. -/
theorem store_slot {α : Type} {Q : α → sProp 𝕄} (C : Memref sig .tc .vmem S4x4x512x256 .f32) (b s : Fin 4) (u : FVec F S512x256 .f32)
    {w : S1x1x512x256.Idx → Elt F .f32} (hw : w = shapeCast S1x1x512x256 u shapeCasts_S512x256_S1x1x512x256)
    {hx : (C.access (slotR b s)).Stores Finset.univ} {hm : (Finset.univ : Finset (slotR b s).shape.Idx) = Finset.univ ∨ ∀ a, (slotR b s).stride a = 1}
    {k : PUnit → Prog (TpuEff nD τ sig (Elt F) Λ₀ .tc) α} :
    holds c (slotOf C b s).view ⊢ iprop((holdsAt c (slotOf C b s).view u -∗ wpAt c (k ⟨⟩) Q)
      -∗ wpAt c (.op (.store C (slotR b s) w Finset.univ hx hm) k) Q) := by
  subst hw
  rw [holds_reshape c (C.access (slotR b s)), holdsAt_reshape c (C.access (slotR b s))]
  exact store_at c C (slotR b s) _

/-- Loading a block of the staged `x`. -/
theorem load_x {α : Type} {Q : α → sProp 𝕄} (n : Dev nD) {hl : xM.view.LoadsAt (xR n).toLoadRect}
    {k : (S512x512.Idx → Elt F .f32) → Prog (TpuEff nD τ sig (Elt F) Λ₀ .tc) α} :
    xPts m c ⊢ iprop((xPts m c -∗ wpAt c (k (xblk m c n)) Q) -∗ wpAt c (.op (.load xM (xR n).toLoadRect hl) k) Q) := by
  unfold xPts
  exact wp_load 𝒱₀ (c : Thread nD τ) none Set.univ (m := xM) (View.setOn_subset_set _ _)

/-- Loading a block of the staged `w`. -/
theorem load_w {α : Type} {Q : α → sProp 𝕄} (d : Bool) (b : Fin 4) {hl : wM.view.LoadsAt (wR d b).toLoadRect}
    {k : (S512x256.Idx → Elt F .f32) → Prog (TpuEff nD τ sig (Elt F) Λ₀ .tc) α} :
    wPts m c ⊢ iprop((wPts m c -∗ wpAt c (k (wblk m c d b)) Q) -∗ wpAt c (.op (.load wM (wR d b).toLoadRect hl) k) Q) := by
  unfold wPts
  exact wp_load 𝒱₀ (c : Thread nD τ) none Set.univ (m := wM) (View.setOn_subset_set _ _)

end Steps

/-! ## The result's pieces -/

/-- Device `c` holds a piece of the result, at some contents. -/
abbrev pieceAny (c : Dev nD) (d : Bool) (b : Fin 4) : sProp 𝕄 := holds (F := F) c (oM.access (wR d b))

/-- Device `c` holds a piece of the result, at its final contents. -/
def pieceAt (c : Dev nD) (d : Bool) (b : Fin 4) : sProp 𝕄 :=
  ((c : Thread nD τ).loc cc0_stg2_0) ↦[(oM.access (wR d b)).set]{fullShare} outAt m c

/-- Element `j` of piece `(d, b)` of the result. -/
theorem outAt_piece (c : Dev nD) (d : Bool) (b : Fin 4) (j : S512x256.Idx) :
    outAt m c ((wR d b).emb j) = silu (acc m d b 3 c) j := by
  have h0 : (((wR d b).emb j) 0).val = (j 0).val := by
    rw [Rect.emb_apply]; show 0 + 1 * (j 0).val = _; omega
  have h1 : (((wR d b).emb j) 1).val = 1024 * d.toNat + 256 * b.val + (j 1).val := by
    rw [Rect.emb_apply]; show col d b + 1 * (j 1).val = _; unfold col; omega
  have hj : (j 1).val < 256 := (j 1).isLt
  have hb := b.isLt
  have hd : decide (1024 ≤ (((wR d b).emb j) 1).val) = d := by
    rw [h1]; cases d <;> simp <;> omega
  have hbb : (⟨(((wR d b).emb j) 1).val % 1024 / 256, by omega⟩ : Fin 4) = b := by
    apply Fin.ext; show _ % 1024 / 256 = _; rw [h1]; cases d <;> simp <;> omega
  unfold outAt
  rw [hd, hbb]
  congr 1
  funext a
  match a with
  | ⟨0, _⟩ => exact Fin.ext h0
  | ⟨1, _⟩ =>
    apply Fin.ext
    show (((wR d b).emb j) 1).val % 256 = _
    rw [h1]; cases d <;> simp <;> omega

section Steps
variable (c : Dev nD)

/-- Storing the activated sum over a piece of the result leaves the piece at its final contents. -/
theorem store_piece {α : Type} {Q : α → sProp 𝕄} (d : Bool) (b : Fin 4) {w : S512x256.Idx → Elt F .f32} (hw : w = silu (acc m d b 3 c))
    {hx : (oM.access (wR d b)).Stores Finset.univ} {hm : (Finset.univ : Finset (wR d b).shape.Idx) = Finset.univ ∨ ∀ a, (wR d b).stride a = 1}
    {k : PUnit → Prog (TpuEff nD τ sig (Elt F) Λ₀ .tc) α} :
    pieceAny c d b ⊢ iprop((pieceAt m c d b -∗ wpAt c (k ⟨⟩) Q)
      -∗ wpAt c (.op (.store oM (wR d b) w Finset.univ hx hm) k) Q) := by
  subst hw
  unfold pieceAny holds pieceAt
  iintro ⟨%f, H⟩ Hk
  iapply (wp_store 𝒱₀ (c : Thread nD τ) none Set.univ (m := oM) (r := wR d b) (Mk := Finset.univ) (S := (oM.access (wR d b)).set)
    (Finset.Subset.refl _)) $$ H
  iintro H
  iapply Hk
  iapply (Entails.of_eq (pointsTo_congr fun i hi => ?_)) $$ H
  obtain ⟨j, -, rfl⟩ := Finset.mem_map.mp hi
  rw [View.write_emb_of_mem _ _ (Finset.mem_univ j)]
  exact (outAt_piece m c d b j).symm

end Steps

end Cert.Ring

end
-- ==== Proof.Segments.lean ====
/-
  The stretches of the body, once for every direction, piece and hop: a send, a wait for an arrival, a wait
  for the end of a sending, and the four kinds of block the body is made of.
-/
module

public import proofs.«01_k».proof.Proof.Slots

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device holds at each stage of a hop -/

/-- The cells of one device: its barrier, and the two of each hop. -/
abbrev CI : Type := Option (Bool × Hop)

abbrev csem : CI → SemLoc sig
  | none => .reg barS
  | some p => .dma (hopSem p.1 p.2)

abbrev kcell (p : Dev nD × CI) : GSem nD τ sig := ((p.1 : Thread nD τ), csem p.2)

/-- Every cell's invariant, under the names `K`, and that every cell has reached its round: shared by all. -/
def records (K : Dev nD × CI → ℕ) : sProp 𝕄 :=
  bigSep Finset.univ fun p : Dev nD × CI => iprop(cellInv ER (ringRd m) (K p) (kcell p) ∗ reached ER (kcell p) 0)

instance records_persistent (K : Dev nD × CI → ℕ) : BI.Persistent (records m K) := by unfold records; infer_instance

theorem records_at (K : Dev nD × CI → ℕ) (p : Dev nD × CI) :
    records m K ⊢ iprop(cellInv ER (ringRd m) (K p) (kcell p) ∗ reached ER (kcell p) 0) := by
  unfold records; exact bigSep_elim (Finset.mem_univ p)

/-- What the whole body carries along while it still owes the arrivals of the hops of `l`. -/
def core (K : Dev nD × CI → ℕ) (c : Dev nD) (l : List Hop) : sProp 𝕄 :=
  iprop(records m K ∗ levAts L lv ∗ xPts m c ∗ wPts m c ∗ ∃ W, owes (c : Thread nD τ) (owed c l) W)

/-- A hop not yet sent: the duties it will pay, its cells' positions, the credit of its arrival here, and the slot it
    will land in at the target. -/
def pend (c : Dev nD) (h : Hop) : sProp 𝕄 :=
  iprop(dutyTok ER (hopCell c false h) 0 false ∗ dutyTok ER (hopCell (tgt h.1 c) true h) 0 false
    ∗ atPos ER (hopCell c false h) 0 ∅ 0 ∗ atPos ER (hopCell c true h) 0 ∅ 0
    ∗ cred (tallyAt (hopCell c true h) () N) ∗ slotAny (F := F) (tgt h.1 c) h.1 h.2.1 h.2.2.succ)

/-- A hop sent: its sending and its arrival here are both to be waited for. -/
def fly (c : Dev nD) (h : Hop) : sProp 𝕄 :=
  iprop(atPos ER (hopCell c false h) 0 ∅ 0 ∗ cred (tallyAt (hopCell c false h) () N)
    ∗ atPos ER (hopCell c true h) 0 ∅ 0 ∗ cred (tallyAt (hopCell c true h) () N))

/-- A hop that has arrived here: its sending is still to be waited for. -/
def got (c : Dev nD) (h : Hop) : sProp 𝕄 :=
  iprop(atPos ER (hopCell c false h) 0 ∅ 0 ∗ cred (tallyAt (hopCell c false h) () N) ∗ semVal (hopCell c true h) 0)

/-- A hop done with: both counters are zero, and the slot sent from is back. -/
def done (c : Dev nD) (h : Hop) : sProp 𝕄 :=
  iprop(semVal (hopCell c false h) 0 ∗ semVal (hopCell c true h) 0
    ∗ slotAt c h.1 h.2.1 h.2.2.castSucc (acc m h.1 h.2.1 h.2.2.val c))

section Steps
variable (K : Dev nD × CI → ℕ) (c : Dev nD)

theorem hopPay_sent (h : Hop) : hopPay m c false h = slotAt c h.1 h.2.1 h.2.2.castSucc (acc m h.1 h.2.1 h.2.2.val c) := by
  unfold hopPay; exact if_neg Bool.false_ne_true

theorem hopPay_arrived (h : Hop) : hopPay m c true h = slotAt c h.1 h.2.1 h.2.2.succ (acc m h.1 h.2.1 h.2.2.val (src h.1 c)) := by
  unfold hopPay; exact if_pos rfl

/-- Sending what `A` holds to `B` on the target of hop `h`, where the end of the sending hands back `A` and the arrival
    hands over `B`. -/
theorem send_to {α : Type} {Q : α → sProp 𝕄} (h : Hop) (l : List Hop) (W : Waits sig Unit)
    (A B : Memref sig .tc .vmem S512x256 .f32) (u : FVec F S512x256 .f32) (hB : B.view.dmaCredit = N)
    (h₁ : hopPay m c false h = holdsAt c A.view u) (h₂ : hopPay m (tgt h.1 c) true h = holdsAt (tgt h.1 c) B.view u)
    {hsc : (B : Memref sig (Dev.tc (tgt h.1 c) : Thread nD τ).2.kind .vmem S512x256 .f32).view.ref.isScScratch = false}
    {hsrc : A.view.WordExact} {hdst : B.view.WordExact}
    {hsem : DmaTarget.Typed .vmem (.dma (hopSem true h)) (.remote (Dev.tc (tgt h.1 c) : Thread nD τ) B (.dma (hopSem false h)) hsc)}
    {k : PUnit → Prog (TpuEff nD τ sig (Elt F) Λ₀ .tc) α} :
    iprop(cellInv ER (ringRd m) (K (c, some (false, h))) (hopCell c false h)
        ∗ cellInv ER (ringRd m) (K (tgt h.1 c, some (true, h))) (hopCell (tgt h.1 c) true h)
        ∗ holdsAt c A.view u ∗ holds (F := F) (tgt h.1 c) B.view ∗ owes (c : Thread nD τ) (owed c (h :: l)) W
        ∗ dutyTok ER (hopCell c false h) 0 false ∗ reached ER (hopCell c false h) 0
        ∗ dutyTok ER (hopCell (tgt h.1 c) true h) 0 false ∗ reached ER (hopCell (tgt h.1 c) true h) 0)
      ⊢ iprop((cred (tallyAt (hopCell c false h) () N) ∗ owes (c : Thread nD τ) (owed c l) W -∗ wpAt c (k ⟨⟩) Q)
        -∗ wpAt c (.op (.enqueueDma A (.remote (Dev.tc (tgt h.1 c) : Thread nD τ) B (.dma (hopSem false h)) hsc) (.dma (hopSem true h)) hsrc hdst hsem) k) Q) := by
  have hp₁ := payload_hop m c false h false
  have hp₂ := payload_hop m (tgt h.1 c) true h false
  rw [h₁] at hp₁
  rw [h₂] at hp₂
  unfold holdsAt at hp₁ hp₂ ⊢
  unfold holds
  iintro ⟨HIS, HIV, ⟨%fs, %hfs, Hs⟩, ⟨%fd, Hd⟩, HO, HtS, HrS, HtV, HrV⟩
  iapply (Rounds.wp_send_pointsTo (Val := Elt F) 𝒱₀ ER (ringRd m) (c : Thread nD τ) none (c' := (Dev.tc (tgt h.1 c) : Thread nD τ)) (src := A) (dst := B)
      (κ₁ := K (c, some (false, h))) (κ₂ := K (tgt h.1 c, some (true, h)))
      (r₁ := 0) (r₂ := 0) (d₁ := false) (d₂ := false) (fd := fd) (fs := fs) (q := fullShare)
      (by rw [duties_hop]; exact Finset.mem_singleton_self _) (by rw [duties_hop]; exact Finset.mem_singleton_self _)
      () () N (show B.view.amount (SemLoc.dma (hopSem true h) : SemLoc sig) = N from hB) rfl rfl (owed c l) rfl (W := W)
      (by
        rw [hp₁]
        iintro H; iexists fs; isplitr; · ipureintro; exact hfs
        iexact H)
      (by
        rw [hp₂]
        iintro H; iexists (B.view.write (Elt F) fd (A.view.read (Elt F) fs) Finset.univ); isplitr
        · ipureintro; rw [View.read_write_univ]; exact hfs
        iexact H)) $$ [HIS HIV HO HtS HrS HtV HrV Hd Hs]
  isplitl [HIS]; · iexact HIS
  isplitl [HIV]; · iexact HIV
  isplitl [Hs]; · iexact Hs
  isplitl [Hd]; · iexact Hd
  isplitl [HO]; · iexact HO
  isplitl [HtS]; · iexact HtS
  isplitl [HrS]; · iexact HrS
  isplitl [HtV] <;> iassumption

/-- Sending hop `h` from the slot that holds this device's partial sum. -/
theorem send_hop {α : Type} {Q : α → sProp 𝕄} (h : Hop) (l : List Hop)
    {M₁ M₂ : Memref sig .tc .vmem S512x256 .f32} (hM₁ : M₁ = slotM h.1 h.2.1 h.2.2.castSucc) (hM₂ : M₂ = slotM h.1 h.2.1 h.2.2.succ)
    {n : Dev nD} (hn : n = tgt h.1 c) {q₁ q₂ : DmaSem sig} (hq₁ : q₁ = hopSem false h) (hq₂ : q₂ = hopSem true h)
    {hsc : (M₂ : Memref sig (Dev.tc n : Thread nD τ).2.kind .vmem S512x256 .f32).view.ref.isScScratch = false}
    {hsrc : M₁.view.WordExact} {hdst : M₂.view.WordExact}
    {hsem : DmaTarget.Typed .vmem (.dma q₂) (.remote (Dev.tc n : Thread nD τ) M₂ (.dma q₁) hsc)}
    {k : PUnit → Prog (TpuEff nD τ sig (Elt F) Λ₀ .tc) α} :
    iprop(core m K c (h :: l) ∗ pend c h ∗ slotAt c h.1 h.2.1 h.2.2.castSucc (acc m h.1 h.2.1 h.2.2.val c))
      ⊢ iprop((core m K c l ∗ fly c h -∗ wpAt c (k ⟨⟩) Q)
        -∗ wpAt c (.op (.enqueueDma M₁ (.remote (Dev.tc n : Thread nD τ) M₂ (.dma q₁) hsc) (.dma q₂) hsrc hdst hsem) k) Q) := by
  have h₁ : hopPay m c false h = holdsAt c M₁.view (acc m h.1 h.2.1 h.2.2.val c) := by subst hM₁; exact hopPay_sent m c h
  have h₂ : hopPay m (tgt h.1 c) true h = holdsAt (tgt h.1 c) M₂.view (acc m h.1 h.2.1 h.2.2.val c) := by
    subst hM₂; rw [hopPay_arrived, src_tgt]
  have hB : M₂.view.dmaCredit = N := by subst hM₂; exact credit_eq _ _ _
  have e₁ : slotAt c h.1 h.2.1 h.2.2.castSucc (acc m h.1 h.2.1 h.2.2.val c) = holdsAt c M₁.view (acc m h.1 h.2.1 h.2.2.val c) := by rw [hM₁]
  have e₂ : slotAny (F := F) (tgt h.1 c) h.1 h.2.1 h.2.2.succ = holds (tgt h.1 c) M₂.view := by rw [hM₂]
  unfold pend
  rw [e₁, e₂]
  clear hM₁ hM₂ e₁ e₂
  subst hn hq₁ hq₂
  unfold core
  iintro ⟨⟨#HR, #Hlev, Hx, Hw, ⟨%W, HO⟩⟩, ⟨HtS, HtV, HaS, HaV, HcV, Hd⟩, Hs⟩ Hk
  ihave HIS := (records_at m K (c, some (false, h))) $$ HR
  ihave HIV := (records_at m K (tgt h.1 c, some (true, h))) $$ HR
  icases HIS with ⟨#HIS, #HrS⟩
  icases HIV with ⟨#HIV, #HrV⟩
  iapply (send_to m K c h l W M₁ M₂ _ hB h₁ h₂) $$ [HO HtS HtV Hd Hs]
  · isplitr; · iexact HIS
    isplitr; · iexact HIV
    isplitl [Hs]; · iexact Hs
    isplitl [Hd]; · iexact Hd
    isplitl [HO]; · iexact HO
    isplitl [HtS]; · iexact HtS
    isplitr; · iexact HrS
    isplitl [HtV]; · iexact HtV
    iexact HrV
  iintro ⟨HcS, HO⟩
  iapply Hk
  isplitl [Hx Hw HO]
  · isplitr; · iexact HR
    isplitr; · iexact Hlev
    isplitl [Hx]; · iexact Hx
    isplitl [Hw]; · iexact Hw
    iexists W; iexact HO
  unfold fly
  isplitl [HaS]; · iexact HaS
  isplitl [HcS]; · iexact HcS
  isplitl [HaV] <;> iassumption

/-- Waiting for the arrival of hop `h` here, owing only later arrivals: the slot it landed in, at the sender's partial sum. -/
theorem wait_arrival {α : Type} {Q : α → sProp 𝕄} (h : Hop) (l : List Hop) (hl : ∀ a ∈ l, h.2.2.val < a.2.2.val)
    {M₁ M₂ : Memref sig .tc .vmem S512x256 .f32} (hM₂ : M₂ = slotM h.1 h.2.1 h.2.2.succ) {q₂ : DmaSem sig} (hq₂ : q₂ = hopSem true h)
    {hsrc : M₁.view.WordExact} {hdst : M₂.view.WordExact}
    {k : PUnit → Prog (TpuEff nD τ sig (Elt F) Λ₀ .tc) α} :
    iprop(core m K c l ∗ fly c h)
      ⊢ iprop((core m K c l ∗ got c h ∗ slotAt c h.1 h.2.1 h.2.2.succ (acc m h.1 h.2.1 h.2.2.val (src h.1 c)) -∗ wpAt c (k ⟨⟩) Q)
        -∗ wpAt c (.op (.waitDma2 q₂ M₁ M₂ hsrc hdst) k) Q) := by
  subst hM₂ hq₂
  have hcr : (slotM h.1 h.2.1 h.2.2.succ).view.dmaCredit = N := credit_eq _ _ _
  unfold core fly
  iintro ⟨⟨#HR, #Hlev, Hx, Hw, ⟨%W, HO⟩⟩, ⟨HaS, HcS, HaV, HcV⟩⟩ Hk
  ihave HIV := (records_at m K (c, some (true, h))) $$ HR
  icases HIV with ⟨#HIV, -⟩
  iapply (Rounds.wp_wait_rest_token 𝒱₀ ER (ringRd m) (c : Thread nD τ) none (κ := K (c, some (true, h)))
      (wpE_waitDma2_eq 𝒱₀ (c : Thread nD τ) none Set.univ) (Set.mem_univ _) () (O := owed c l) (W := W) (R := 0) (m := 0) (T := ∅)
      (by rw [Nat.zero_add, expect_hop, hcr])) $$ [HcV HO HaV]
  · isplitr; · iexact HIV
    isplitl [HcV]; · rw [hcr]; iexact HcV
    isplitl [HO]; · iexact HO
    isplitr
    · iapply (mayWait_owed c (.dma (hopSem true h)) l (fun a ha => by
        have := hl a ha
        rw [lv_hop, if_pos rfl]; omega))
      iexact Hlev
    iexact HaV
  iintro ⟨HO, HaV, -, Hpay⟩
  ihave Hp := (Entails.of_eq ((rest_hop m c true h).trans (hopPay_arrived m c h))) $$ Hpay
  imod (Rounds.cell_close ER (ringRd m) (Set.mem_univ (K (c, some (true, h)))) (fun h => h) (R := 0 + 1) (duties_later m (hopCell c true h))) $$ [HaV] with HzV
  · isplitr; · iexact HIV
    iexact HaV
  iapply Hk
  isplitl [Hx Hw HO]
  · isplitr; · iexact HR
    isplitr; · iexact Hlev
    isplitl [Hx]; · iexact Hx
    isplitl [Hw]; · iexact Hw
    iexists _; iexact HO
  unfold got
  isplitl [HaS HcS HzV]
  · isplitl [HaS]; · iexact HaS
    isplitl [HcS] <;> iassumption
  iexact Hp

/-- Waiting for the end of the sending of hop `h`, owing nothing: the slot it was sent from. -/
theorem wait_sent {α : Type} {Q : α → sProp 𝕄} (h : Hop)
    {M₁ M₂ : Memref sig .tc .vmem S512x256 .f32} (hM₂ : M₂ = slotM h.1 h.2.1 h.2.2.castSucc) {q₂ : DmaSem sig} (hq₂ : q₂ = hopSem false h)
    {hsrc : M₁.view.WordExact} {hdst : M₂.view.WordExact}
    {k : PUnit → Prog (TpuEff nD τ sig (Elt F) Λ₀ .tc) α} :
    iprop(core m K c [] ∗ got c h)
      ⊢ iprop((core m K c [] ∗ done m c h -∗ wpAt c (k ⟨⟩) Q)
        -∗ wpAt c (.op (.waitDma2 q₂ M₁ M₂ hsrc hdst) k) Q) := by
  subst hM₂ hq₂
  have hcr : (slotM h.1 h.2.1 h.2.2.castSucc).view.dmaCredit = N := credit_eq _ _ _
  unfold core got
  iintro ⟨⟨#HR, #Hlev, Hx, Hw, ⟨%W, HO⟩⟩, ⟨HaS, HcS, HzV⟩⟩ Hk
  ihave HIS := (records_at m K (c, some (false, h))) $$ HR
  icases HIS with ⟨#HIS, -⟩
  iapply (Rounds.wp_wait_rest_token 𝒱₀ ER (ringRd m) (c : Thread nD τ) none (κ := K (c, some (false, h)))
      (wpE_waitDma2_eq 𝒱₀ (c : Thread nD τ) none Set.univ) (Set.mem_univ _) () (O := owed c []) (W := W) (R := 0) (m := 0) (T := ∅)
      (by rw [Nat.zero_add, expect_hop, hcr])) $$ [HcS HO HaS]
  · isplitr; · iexact HIS
    isplitl [HcS]; · rw [hcr]; iexact HcS
    isplitl [HO]; · iexact HO
    isplitr
    · iapply (mayWait_owed c (.dma (hopSem false h)) [] (fun a ha => absurd ha List.not_mem_nil))
      iexact Hlev
    iexact HaS
  iintro ⟨HO, HaS, -, Hpay⟩
  ihave Hp := (Entails.of_eq ((rest_hop m c false h).trans (hopPay_sent m c h))) $$ Hpay
  imod (Rounds.cell_close ER (ringRd m) (Set.mem_univ (K (c, some (false, h)))) (fun h => h) (R := 0 + 1) (duties_later m (hopCell c false h))) $$ [HaS] with HzS
  · isplitr; · iexact HIS
    iexact HaS
  iapply Hk
  isplitl [Hx Hw HO]
  · isplitr; · iexact HR
    isplitr; · iexact Hlev
    isplitl [Hx]; · iexact Hx
    isplitl [Hw]; · iexact Hw
    iexists _; iexact HO
  unfold done
  isplitl [HzS]; · iexact HzS
  isplitl [HzV]; · iexact HzV
  iexact Hp

end Steps

end Cert.Ring

end
-- ==== Proof.Program.lean ====
/-
  The body as a program written by its regularity: five stretches, each a fold of one block over the pieces
  or the hops. The printed body is this program.
-/
module

public import proofs.«01_k».proof.Proof.Segments

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The device a hop is sent to, as the body computes it. -/
def devOf (c : Dev nD) : Hop → Dev nD
  | (false, 0, 0) => ⟨k0_dev3 c, k0_dev3_lt c⟩
  | (true, 0, 0) => ⟨k0_dev4 c, k0_dev4_lt c⟩
  | (false, 1, 0) => ⟨k0_dev5 c, k0_dev5_lt c⟩
  | (true, 1, 0) => ⟨k0_dev6 c, k0_dev6_lt c⟩
  | (false, 2, 0) => ⟨k0_dev7 c, k0_dev7_lt c⟩
  | (true, 2, 0) => ⟨k0_dev8 c, k0_dev8_lt c⟩
  | (false, 3, 0) => ⟨k0_dev9 c, k0_dev9_lt c⟩
  | (true, 3, 0) => ⟨k0_dev10 c, k0_dev10_lt c⟩
  | (false, 0, 1) => ⟨k0_dev11 c, k0_dev11_lt c⟩
  | (true, 0, 1) => ⟨k0_dev12 c, k0_dev12_lt c⟩
  | (false, 1, 1) => ⟨k0_dev13 c, k0_dev13_lt c⟩
  | (true, 1, 1) => ⟨k0_dev14 c, k0_dev14_lt c⟩
  | (false, 2, 1) => ⟨k0_dev15 c, k0_dev15_lt c⟩
  | (true, 2, 1) => ⟨k0_dev16 c, k0_dev16_lt c⟩
  | (false, 3, 1) => ⟨k0_dev17 c, k0_dev17_lt c⟩
  | (true, 3, 1) => ⟨k0_dev18 c, k0_dev18_lt c⟩
  | (false, 0, 2) => ⟨k0_dev19 c, k0_dev19_lt c⟩
  | (true, 0, 2) => ⟨k0_dev20 c, k0_dev20_lt c⟩
  | (false, 1, 2) => ⟨k0_dev21 c, k0_dev21_lt c⟩
  | (true, 1, 2) => ⟨k0_dev22 c, k0_dev22_lt c⟩
  | (false, 2, 2) => ⟨k0_dev23 c, k0_dev23_lt c⟩
  | (true, 2, 2) => ⟨k0_dev24 c, k0_dev24_lt c⟩
  | (false, 3, 2) => ⟨k0_dev25 c, k0_dev25_lt c⟩
  | (true, 3, 2) => ⟨k0_dev26 c, k0_dev26_lt c⟩

theorem devOf_eq (c : Dev nD) (h : Hop) : devOf c h = tgt h.1 c := by revert c h; decide +kernel

/-- The number of the block of `x` that the body reads in direction `d` after `s` hops. -/
def offIx (d : Bool) (s : Fin 4) : Fin 8 := ⟨2 * s.val + d.toNat, by revert d s; decide⟩

theorem off_eq (c : Dev nD) (d : Bool) (s : Fin 4) : k0_off1 c (k0_off1_at (offIx d s)) = ![512 * (chunk d s.val c).val, 0] := by
  revert c d s; decide +kernel

theorem notScratch (d : Bool) (b s : Fin 4) : (slotM d b s).view.ref.isScScratch = false := by cases d <;> rfl

/-- A program of one device that returns nothing. -/
abbrev Code (F : FTy → Type) : Type 1 := Prog (TpuEff nD τ sig (Elt F) Λ₀ .tc) PUnit

section Code
variable (c : Dev nD)

/-- The two loads before every product: the rows of `x` for hop `s`, and the columns of `w` of the piece. -/
def loads (p : Bool × Fin 4) (s : Fin 4) (k : Vec F S512x512 .f32 → Vec F S512x256 .f32 → Code F) : Code F :=
  .op (.load xM (Rect.unit (s := S2048x512) (k0_off1 c (k0_off1_at (offIx p.1 s))) S512x512.size (k0_off1_inb c (offIx p.1 s))).toLoadRect
    (View.loadsAt_vmem h_S512x512)) fun v =>
  .op (.load wM (wR p.1 p.2).toLoadRect (View.loadsAt_vmem h_S512x256)) fun w => k v w

/-- Filling the slot of `s` hops with `u` and sending it on. -/
def send (p : Bool × Fin 4) (s : Fin 3) (u : FVec F S512x256 .f32) (k : Code F) : Code F :=
  .op (.load (commM p.1) (slotR p.2 s.castSucc).toLoadRect (View.loadsAt_vmem h_S1x1x512x256)) fun _ =>
  .op (.store (commM p.1) (slotR p.2 s.castSucc) (shapeCast S1x1x512x256 u shapeCasts_S512x256_S1x1x512x256) Finset.univ
    (View.stores_vmem_bits_univ h_S1x1x512x256 rfl) (.inl rfl)) fun _ =>
  .op (.enqueueDma (slotM p.1 p.2 s.castSucc)
    (.remote (Dev.tc (devOf c (p.1, p.2, s))) (slotM p.1 p.2 s.succ) (.dma (hopSem false (p.1, p.2, s))) (notScratch p.1 p.2 s.succ))
    (.dma (hopSem true (p.1, p.2, s)))
    ((View.wordExact_bits rfl).reshape _ _) ((View.wordExact_bits rfl).reshape _ _) ⟨⟨rfl, Or.inl rfl⟩, trivial⟩) fun _ => k

/-- Waiting for the arrival of hop `s` of a piece, and reading the slot it landed in. -/
def arrive (p : Bool × Fin 4) (s : Fin 3) (k : Vec F S1x1x512x256 .f32 → Code F) : Code F :=
  .op (.waitDma2 (hopSem true (p.1, p.2, s)) (slotM p.1 p.2 s.castSucc) (slotM p.1 p.2 s.succ)
    ((View.wordExact_bits rfl).reshape _ _) ((View.wordExact_bits rfl).reshape _ _)) fun _ =>
  .op (.load (commM p.1) (slotR p.2 s.succ).toLoadRect (View.loadsAt_vmem h_S1x1x512x256)) fun z => k z

/-- The first block of a piece: its own product, sent on. -/
def firstP (p : Bool × Fin 4) (k : Code F) : Code F :=
  loads c p 0 fun v w => send c p 0 (k0_pay9 v w) k

/-- A middle block of a piece: the partial sum that hop `s` brought, with the own product added, sent on as hop `s'`. -/
def midP (s s' : Fin 3) (p : Bool × Fin 4) (k : Code F) : Code F :=
  loads c p s.succ fun v w => arrive p s fun z =>
  send c p s' (addf (shapeCast S512x256 z shapeCasts_S1x1x512x256_S512x256) (k0_pay9 v w)) k

/-- The last block of a piece: the sum completed and activated, stored into the result. -/
def lastP (p : Bool × Fin 4) (k : Code F) : Code F :=
  loads c p 3 fun v w => arrive p 2 fun z =>
  .op (.load oM (wR p.1 p.2).toLoadRect (View.loadsAt_vmem h_S512x256)) fun _ =>
  .op (.store oM (wR p.1 p.2) (silu (addf (shapeCast S512x256 z shapeCasts_S1x1x512x256_S512x256) (k0_pay9 v w))) Finset.univ
    (View.stores_vmem_bits_univ h_S512x256 rfl) (.inl rfl)) fun _ => k

/-- Waiting for the end of the sending of a hop. -/
def waitP (h : Hop) (k : Code F) : Code F :=
  .op (.waitDma2 (hopSem false h) (slotM h.1 h.2.1 h.2.2.succ) (slotM h.1 h.2.1 h.2.2.castSucc)
    ((View.wordExact_bits rfl).reshape _ _) ((View.wordExact_bits rfl).reshape _ _)) fun _ => k

/-- The body after the barrier. -/
def tailP : Code F :=
  pieces.foldr (firstP c) (pieces.foldr (midP c 0 1) (pieces.foldr (midP c 1 2) (pieces.foldr (lastP c) (hopList.foldr waitP (.ret ⟨⟩)))))

/-- The whole body: the two neighbours are told that this device has entered, both are waited for, then the rest. -/
def bodyP : Code F :=
  .op (.semSignal (Dev.tc ⟨k0_dev1 c, k0_dev1_lt c⟩) barS 1) fun _ =>
  .op (.semSignal (Dev.tc ⟨k0_dev2 c, k0_dev2_lt c⟩) barS 1) fun _ =>
  .op (.semWait barS 2) fun _ => tailP c

end Code

set_option sl_open_parts.maxParts 100 in
set_option maxRecDepth 10000 in
set_option maxHeartbeats 4000000 in
/-- The printed body is the program above. -/
theorem body_wp (c : Dev nD) (Kt : PUnit → sProp 𝕄) (P : sProp 𝕄) (h : P ⊢ wpAt c (bodyP (F := F) c) Kt) :
    P ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) cc0_scratch2 cc0_scratch3 cc0_scratch4 cc0_scratch5) Kt := by
  simp only [cc0_body_eq_skeleton]; unfold cc0_body_skel
  sl_open_parts
  simp only [semSignalWord, semWaitWord, Prog.lift, Prog.bind_op, Prog.bind_ret, Prog.pure_eq_ret, wp_deviceId]
  exact h

end Cert.Ring

end
-- ==== Proof.Blocks.lean ====
/-
  What each stretch of the body does: the steps of one block, and then every stretch by induction over the
  pieces or hops it runs through.
-/
module

public import proofs.«01_k».proof.Proof.Program

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps
variable (K : Dev nD × CI → ℕ) (c : Dev nD) {Q : PUnit → sProp (MT nD τ sig Unit (Elt F) ℕ (UR sig nD τ × URounds (GSem nD τ sig) Bool) ℕ)}

/-- Loading the block of `x` at row offset `512 * n`, however the offset is written. -/
theorem load_x_at (n : Dev nD) {off : Fin 2 → ℕ} (ho : off = ![512 * n.val, 0]) {ib : ∀ a, off a + S512x512.size a ≤ S2048x512.size a}
    {hl : xM.view.LoadsAt (Rect.unit (s := S2048x512) off S512x512.size ib).toLoadRect} {k : Vec F S512x512 .f32 → Code F} :
    xPts m c ⊢ iprop((xPts m c -∗ wpAt c (k (xblk m c n)) Q)
      -∗ wpAt c (.op (.load xM (Rect.unit (s := S2048x512) off S512x512.size ib).toLoadRect hl) k) Q) := by
  subst ho
  exact load_x m c n

/-- The two loads give the blocks of `x` and `w`. -/
theorem loads_step (l : List Hop) (p : Bool × Fin 4) (s : Fin 4) {k : Vec F S512x512 .f32 → Vec F S512x256 .f32 → Code F} :
    core m K c l ⊢ iprop((core m K c l -∗ wpAt c (k (xblk m c (chunk p.1 s.val c)) (wblk m c p.1 p.2)) Q)
      -∗ wpAt c (loads c p s k) Q) := by
  unfold core loads
  iintro ⟨HR, Hlev, Hx, Hw, HO⟩ Hk
  iapply (load_x_at m c (chunk p.1 s.val c) (off_eq c p.1 s)) $$ Hx
  iintro Hx
  iapply (load_w m c p.1 p.2) $$ Hw
  iintro Hw
  iapply Hk
  isplitl [HR]; · iexact HR
  isplitl [Hlev]; · iexact Hlev
  isplitl [Hx]; · iexact Hx
  isplitl [Hw] <;> iassumption

/-- Filling a slot with this device's partial sum and sending it on. -/
theorem send_step (l : List Hop) (p : Bool × Fin 4) (s : Fin 3) {u : FVec F S512x256 .f32} (hu : u = acc m p.1 p.2 s.val c) {k : Code F} :
    iprop(core m K c ((p.1, p.2, s) :: l) ∗ pend c (p.1, p.2, s) ∗ slotAny (F := F) c p.1 p.2 s.castSucc)
      ⊢ iprop((core m K c l ∗ fly c (p.1, p.2, s) -∗ wpAt c k Q) -∗ wpAt c (send c p s u k) Q) := by
  unfold send
  iintro ⟨HC, Hp, Hs⟩ Hk
  iapply (load_slot_any c (commM p.1) p.2 s.castSucc) $$ Hs
  iintro %z Hs
  iapply (store_slot c (commM p.1) p.2 s.castSucc u rfl) $$ Hs
  iintro Hs
  subst hu
  iapply (send_hop m K c (p.1, p.2, s) l rfl rfl (devOf_eq c _) rfl rfl) $$ [HC Hp Hs]
  · isplitl [HC]; · iexact HC
    isplitl [Hp] <;> iassumption
  iexact Hk

/-- Waiting for a hop's arrival, owing only later arrivals: the slot holds the sender's partial sum, and the load reads it. -/
theorem arrive_step (l : List Hop) (p : Bool × Fin 4) (s : Fin 3) (hl : ∀ a ∈ l, s.val < a.2.2.val) {k : Vec F S1x1x512x256 .f32 → Code F} :
    iprop(core m K c l ∗ fly c (p.1, p.2, s))
      ⊢ iprop((core m K c l ∗ got (F := F) c (p.1, p.2, s) ∗ slotAt c p.1 p.2 s.succ (acc m p.1 p.2 s.val (src p.1 c))
          -∗ wpAt c (k (shapeCast S1x1x512x256 (acc m p.1 p.2 s.val (src p.1 c)) shapeCasts_S512x256_S1x1x512x256)) Q)
        -∗ wpAt c (arrive p s k) Q) := by
  unfold arrive
  iintro ⟨HC, Hf⟩ Hk
  iapply (wait_arrival m K c (p.1, p.2, s) l hl rfl rfl) $$ [HC Hf]
  · isplitl [HC] <;> iassumption
  iintro ⟨HC, Hg, Hs⟩
  iapply (load_slot c (commM p.1) p.2 s.succ _) $$ Hs
  iintro Hs
  iapply Hk
  isplitl [HC]; · iexact HC
  isplitl [Hg] <;> iassumption

/-- The own product added to the partial sum a hop brought is the next partial sum. -/
theorem acc_step (d : Bool) (b : Fin 4) (s : Fin 3) :
    addf (shapeCast S512x256 (shapeCast S1x1x512x256 (acc m d b s.val (src d c)) shapeCasts_S512x256_S1x1x512x256) shapeCasts_S1x1x512x256_S512x256)
      (k0_pay9 (xblk m c (chunk d s.succ.val c)) (wblk m c d b)) = acc m d b (s.val + 1) c := by
  rw [cast_cast]; rfl

/-- A piece's first block. -/
theorem first_step (l : List Hop) (p : Bool × Fin 4) {k : Code F} :
    iprop(core m K c ((p.1, p.2, 0) :: l) ∗ pend c (p.1, p.2, 0) ∗ slotAny (F := F) c p.1 p.2 0)
      ⊢ iprop((core m K c l ∗ fly c (p.1, p.2, 0) -∗ wpAt c k Q) -∗ wpAt c (firstP c p k) Q) := by
  unfold firstP
  iintro ⟨HC, Hp, Hs⟩ Hk
  ihave Hs := (Entails.of_eq (show slotAny (F := F) c p.1 p.2 0 = slotAny c p.1 p.2 (0 : Fin 3).castSucc from rfl)) $$ Hs
  iapply (loads_step m K c _ p 0) $$ HC
  iintro HC
  iapply (send_step m K c l p 0 rfl) $$ [HC Hp Hs]
  · isplitl [HC]; · iexact HC
    isplitl [Hp] <;> iassumption
  iexact Hk

/-- A piece's middle block, which receives hop `s` and sends hop `s' = s + 1`. -/
theorem mid_step (s s' : Fin 3) (hs : s'.val = s.val + 1) (l : List Hop) (hl : ∀ a ∈ l, s.val < a.2.2.val) (p : Bool × Fin 4) {k : Code F} :
    iprop(core m K c ((p.1, p.2, s') :: l) ∗ fly c (p.1, p.2, s) ∗ pend c (p.1, p.2, s'))
      ⊢ iprop((core m K c l ∗ got (F := F) c (p.1, p.2, s) ∗ fly c (p.1, p.2, s') -∗ wpAt c k Q) -∗ wpAt c (midP c s s' p k) Q) := by
  have hc : s.succ = s'.castSucc := Fin.ext (by rw [Fin.val_succ, Fin.val_castSucc, hs])
  have hl' : ∀ a ∈ ((p.1, p.2, s') :: l : List Hop), s.val < a.2.2.val := fun a ha => by
    rcases List.mem_cons.mp ha with rfl | ha
    · show s.val < s'.val; omega
    · exact hl a ha
  unfold midP
  iintro ⟨HC, Hf, Hp⟩ Hk
  iapply (loads_step m K c _ p s.succ) $$ HC
  iintro HC
  iapply (arrive_step m K c _ p s hl') $$ [HC Hf]
  · isplitl [HC] <;> iassumption
  iintro ⟨HC, Hg, Hs⟩
  ihave Hs := (holdsAt_holds c _ _) $$ Hs
  ihave Hs := (Entails.of_eq (show slotAny (F := F) c p.1 p.2 s.succ = slotAny c p.1 p.2 s'.castSucc by rw [hc])) $$ Hs
  iapply (send_step m K c l p s' (by rw [acc_step, hs])) $$ [HC Hp Hs]
  · isplitl [HC]; · iexact HC
    isplitl [Hp] <;> iassumption
  iintro ⟨HC, Hf⟩
  iapply Hk
  isplitl [HC]; · iexact HC
  isplitl [Hg] <;> iassumption

/-- A piece's last block. -/
theorem last_step (p : Bool × Fin 4) {k : Code F} :
    iprop(core m K c [] ∗ fly c (p.1, p.2, 2) ∗ pieceAny (F := F) c p.1 p.2)
      ⊢ iprop((core m K c [] ∗ got (F := F) c (p.1, p.2, 2) ∗ slotAny (F := F) c p.1 p.2 3 ∗ pieceAt m c p.1 p.2 -∗ wpAt c k Q)
        -∗ wpAt c (lastP c p k) Q) := by
  unfold lastP
  iintro ⟨HC, Hf, Ho⟩ Hk
  iapply (loads_step m K c _ p 3) $$ HC
  iintro HC
  iapply (arrive_step m K c [] p 2 (fun a ha => absurd ha List.not_mem_nil)) $$ [HC Hf]
  · isplitl [HC] <;> iassumption
  iintro ⟨HC, Hg, Hs⟩
  ihave Hs := (holdsAt_holds c _ _) $$ Hs
  ihave Hs := (Entails.of_eq (show slotAny (F := F) c p.1 p.2 (2 : Fin 3).succ = slotAny c p.1 p.2 3 from rfl)) $$ Hs
  iapply (load_any c oM (wR p.1 p.2)) $$ Ho
  iintro %z Ho
  iapply (store_piece m c p.1 p.2 (congrArg silu (acc_step m c p.1 p.2 2))) $$ Ho
  iintro Ho
  iapply Hk
  isplitl [HC]; · iexact HC
  isplitl [Hg]; · iexact Hg
  isplitl [Hs] <;> iassumption

/-! ## The stretches -/

/-- A stretch of blocks, each of which turns `A` at its own index into `B` and shortens the list of arrivals still owed,
    turns `A` at every index into `B` at every index. `R l` is what the stretch carries along when it still owes `l`. -/
theorem stretch {I : Type} (R : List Hop → sProp 𝕄) (A B : I → sProp 𝕄) (blk : I → Code F → Code F) (hops : I → List Hop) (P : List Hop → Prop)
    (hstep : ∀ i l k, P l → iprop(R (hops i ++ l) ∗ A i) ⊢ iprop((R l ∗ B i -∗ wpAt c k Q) -∗ wpAt c (blk i k) Q))
    (hP : ∀ i l, P l → P (hops i ++ l))
    (ps : List I) (l : List Hop) (hl : P l) (k : Code F) :
    iprop(R (ps.flatMap hops ++ l) ∗ bigSepL ps A) ⊢ iprop((R l ∗ bigSepL ps B -∗ wpAt c k Q) -∗ wpAt c (ps.foldr blk k) Q) := by
  have hPs : ∀ ps : List I, P (ps.flatMap hops ++ l) := fun ps => by
    induction ps with
    | nil => exact hl
    | cons i ps ih => rw [List.flatMap_cons, List.append_assoc]; exact hP i _ ih
  induction ps with
  | nil =>
    rw [List.flatMap_nil, List.nil_append]
    iintro ⟨HR, HA⟩ Hk
    iapply Hk
    isplitl [HR]; · iexact HR
    iexact HA
  | cons i ps ih =>
    rw [List.flatMap_cons, List.append_assoc, bigSepL_cons' i ps A, bigSepL_cons' i ps B]
    iintro ⟨HR, HA, HAs⟩ Hk
    iapply (hstep i _ _ (hPs ps)) $$ [HR HA]
    · isplitl [HR] <;> iassumption
    iintro ⟨HR, HB⟩
    iapply ih $$ [HR HAs]
    · isplitl [HR] <;> iassumption
    iintro ⟨HR, HBs⟩
    iapply Hk
    isplitl [HR]; · iexact HR
    isplitl [HB] <;> iassumption

theorem round_flatMap (s : Fin 3) (ps : List (Bool × Fin 4)) : ps.flatMap (fun p => [((p.1, p.2, s) : Hop)]) = ps.map fun p => (p.1, p.2, s) := by
  induction ps with
  | nil => rfl
  | cons p ps ih => rw [List.flatMap_cons, ih]; rfl

/-- Every piece's first block. -/
theorem first_run (l : List Hop) (k : Code F) :
    iprop(core m K c (round 0 ++ l) ∗ bigSepL pieces fun p => iprop(pend c (p.1, p.2, 0) ∗ slotAny (F := F) c p.1 p.2 0))
      ⊢ iprop((core m K c l ∗ bigSepL pieces (fun p => fly (F := F) c (p.1, p.2, 0)) -∗ wpAt c k Q) -∗ wpAt c (pieces.foldr (firstP c) k) Q) := by
  have h := stretch (F := F) c (Q := Q) (core m K c) (fun p : Bool × Fin 4 => iprop(pend c (p.1, p.2, 0) ∗ slotAny (F := F) c p.1 p.2 0)) (fun p => fly (F := F) c (p.1, p.2, 0))
    (firstP c) (fun p => [(p.1, p.2, 0)]) (fun _ => True) (fun p l k _ => first_step m K c l p) (fun _ _ _ => trivial) pieces l trivial k
  rw [round_flatMap] at h
  exact h

/-- Every piece's middle block that receives hop `s`. -/
theorem mid_run (s s' : Fin 3) (hs : s'.val = s.val + 1) (l : List Hop) (hl : ∀ a ∈ l, s.val < a.2.2.val) (k : Code F) :
    iprop(core m K c (round s' ++ l) ∗ bigSepL pieces fun p => iprop(fly c (p.1, p.2, s) ∗ pend (F := F) c (p.1, p.2, s')))
      ⊢ iprop((core m K c l ∗ bigSepL pieces (fun p => iprop(got (F := F) c (p.1, p.2, s) ∗ fly (F := F) c (p.1, p.2, s'))) -∗ wpAt c k Q)
        -∗ wpAt c (pieces.foldr (midP c s s') k) Q) := by
  have h := stretch (F := F) c (Q := Q) (core m K c) (fun p : Bool × Fin 4 => iprop(fly c (p.1, p.2, s) ∗ pend (F := F) c (p.1, p.2, s')))
    (fun p => iprop(got (F := F) c (p.1, p.2, s) ∗ fly (F := F) c (p.1, p.2, s')))
    (midP c s s') (fun p => [(p.1, p.2, s')]) (fun l => ∀ a ∈ l, s.val < a.2.2.val) (fun p l k hl => mid_step m K c s s' hs l hl p)
    (fun p l hl a ha => by
      rcases List.mem_cons.mp ha with rfl | ha
      · show s.val < s'.val; omega
      · exact hl a ha) pieces l hl k
  rw [round_flatMap] at h
  exact h

/-- Every piece's last block. -/
theorem last_run (k : Code F) :
    iprop(core m K c [] ∗ bigSepL pieces fun p => iprop(fly c (p.1, p.2, 2) ∗ pieceAny (F := F) c p.1 p.2))
      ⊢ iprop((core m K c [] ∗ bigSepL pieces (fun p => iprop(got (F := F) c (p.1, p.2, 2) ∗ slotAny (F := F) c p.1 p.2 3 ∗ pieceAt m c p.1 p.2)) -∗ wpAt c k Q)
        -∗ wpAt c (pieces.foldr (lastP c) k) Q) := by
  have h := stretch (F := F) c (Q := Q) (fun _ => core m K c []) (fun p : Bool × Fin 4 => iprop(fly c (p.1, p.2, 2) ∗ pieceAny (F := F) c p.1 p.2))
    (fun p => iprop(got (F := F) c (p.1, p.2, 2) ∗ slotAny (F := F) c p.1 p.2 3 ∗ pieceAt m c p.1 p.2))
    (lastP c) (fun _ => []) (fun _ => True) (fun p l k _ => last_step m K c p) (fun _ _ _ => trivial) pieces [] trivial k
  exact h

/-- The waits for the ends of all sendings. -/
theorem wait_run (hs : List Hop) (k : Code F) :
    iprop(core m K c [] ∗ bigSepL hs fun h => got (F := F) c h)
      ⊢ iprop((core m K c [] ∗ bigSepL hs (fun h => done m c h) -∗ wpAt c k Q) -∗ wpAt c (hs.foldr waitP k) Q) := by
  have h := stretch (F := F) c (Q := Q) (fun _ => core m K c []) (fun h : Hop => got (F := F) c h) (fun h => done m c h)
    waitP (fun _ => []) (fun _ => True) (fun h l k _ => by unfold waitP; exact wait_sent m K c h (M₁ := slotM h.1 h.2.1 h.2.2.succ) (k := fun _ => k) rfl rfl) (fun _ _ _ => trivial) hs [] trivial k
  exact h

end Steps

end Cert.Ring

end
-- ==== Proof.Body.lean ====
/-
  The whole body of one device: its buffers cut into slots and pieces, the barrier, the five stretches, and
  the buffers joined again.
-/
module

public import proofs.«01_k».proof.Proof.Blocks

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A family implies another that each member implies. -/
theorem fam_mono {I : Type} [Fintype I] {Φ Ψ : I → sProp 𝕄} (h : ∀ i, Φ i ⊢ Ψ i) : bigSep Finset.univ Φ ⊢ bigSep Finset.univ Ψ :=
  bigSep_mono fun i _ => h i

/-- A finished program holds its postcondition. -/
theorem ret_step {Q : PUnit → sProp 𝕄} (c : Dev nD) : Q ⟨⟩ ⊢ wpAt c (Prog.ret ⟨⟩) Q := by
  unfold wpAt
  iintro H
  rw [wp_ret]
  imodintro
  iexact H

/-! ## Cutting a buffer into blocks, and joining the blocks again -/

section Cut
variable (c : Dev nD) {I : Type} [Fintype I] [DecidableEq I] {sh : Shape} (C : Memref sig .tc .vmem sh .f32) (R : I → Rect sh)
  (hd : ∀ i j, i ≠ j → Disjoint (R i).set (R j).set) (hc : ∀ x : sh.Idx, ∃ i, x ∈ (R i).set) (hC : C.view.set = Finset.univ)

omit [FloatOps F] in
include hd in
theorem access_disjoint (i j : I) (h : i ≠ j) : Disjoint (C.access (R i)).set (C.access (R j)).set := by
  show Disjoint (C.view.slice (R i)).set (C.view.slice (R j)).set
  rw [View.set_slice, View.set_slice]
  exact (Finset.disjoint_map _).mpr (hd i j h)

omit [FloatOps F] [DecidableEq I] in
include hc hC in
theorem access_cover : (Finset.univ : Finset I).biUnion (β := Idx (C.view.loc (c : Thread nD τ))) (fun i => (C.access (R i)).set) = Finset.univ := by
  ext y
  simp only [Finset.mem_biUnion, Finset.mem_univ, true_and, iff_true]
  have hy : y ∈ C.view.set := by rw [hC]; exact Finset.mem_univ y
  obtain ⟨x, -, rfl⟩ := Finset.mem_map.mp hy
  obtain ⟨i, hi⟩ := hc x
  refine ⟨i, ?_⟩
  show _ ∈ (C.view.slice (R i)).set
  rw [View.set_slice]
  exact Finset.mem_map_of_mem _ hi

omit [FloatOps F] in
include hd hc hC in
/-- A buffer held whole is held block by block. -/
theorem cut : iprop(∃ f : Buf (Elt F) (C.view.loc (c : Thread nD τ)), (C.view.loc (c : Thread nD τ)) ↦{fullShare} f)
    ⊢ (bigSep Finset.univ fun i => holds (F := F) c (C.access (R i)) : sProp 𝕄) := by
  iintro ⟨%f, H⟩
  ihave H := (Entails.of_eq (Idealize.ShloMosaic.Ring.pointsTo_blocks (ℓ := C.view.loc (c : Thread nD τ)) (fun i => (C.access (R i)).set)
    (access_disjoint C R hd) (access_cover c C R hc hC) f)) $$ H
  iapply (fam_mono fun i => show _ ⊢ holds (F := F) c (C.access (R i)) from by
    unfold holds; iintro H; iexists f; iexact H)
  iexact H

omit [FloatOps F] in
include hd hc hC in
/-- Held block by block, a buffer is held whole. -/
theorem join (f₀ : Buf (Elt F) (C.view.loc (c : Thread nD τ))) : (bigSep Finset.univ fun i => holds (F := F) c (C.access (R i)) : sProp 𝕄)
    ⊢ iprop(∃ f : Buf (Elt F) (C.view.loc (c : Thread nD τ)), (C.view.loc (c : Thread nD τ)) ↦{fullShare} f) :=
  Idealize.ShloMosaic.Ring.pointsTo_blocks_join_exists (ℓ := C.view.loc (c : Thread nD τ)) (fun i => (C.access (R i)).set)
    (access_disjoint C R hd) (access_cover c C R hc hC) f₀

end Cut

theorem slots_disjoint (p q : Fin 4 × Fin 4) (h : p ≠ q) : Disjoint (slotR p.1 p.2).set (slotR q.1 q.2).set := by
  rw [Finset.disjoint_left]
  intro i hi hj
  have h0 := Rect.mem_set_unit.mp hi 0
  have h1 := Rect.mem_set_unit.mp hi 1
  have g0 := Rect.mem_set_unit.mp hj 0
  have g1 := Rect.mem_set_unit.mp hj 1
  have e0 : p.1.val = q.1.val := by
    have a := h0.1; have b := h0.2; have c := g0.1; have d := g0.2
    change p.1.val ≤ (i 0).val at a; change (i 0).val < p.1.val + 1 at b
    change q.1.val ≤ (i 0).val at c; change (i 0).val < q.1.val + 1 at d
    omega
  have e1 : p.2.val = q.2.val := by
    have a := h1.1; have b := h1.2; have c := g1.1; have d := g1.2
    change p.2.val ≤ (i 1).val at a; change (i 1).val < p.2.val + 1 at b
    change q.2.val ≤ (i 1).val at c; change (i 1).val < q.2.val + 1 at d
    omega
  exact h (Prod.ext (Fin.ext e0) (Fin.ext e1))

theorem slots_cover (x : S4x4x512x256.Idx) : ∃ p : Fin 4 × Fin 4, x ∈ (slotR p.1 p.2).set := by
  refine ⟨(x 0, x 1), Rect.mem_set_unit.mpr fun a => ?_⟩
  match a with
  | ⟨0, _⟩ => exact ⟨Nat.le_refl _, Nat.lt_succ_self _⟩
  | ⟨1, _⟩ => exact ⟨Nat.le_refl _, Nat.lt_succ_self _⟩
  | ⟨2, h⟩ => exact ⟨Nat.zero_le _, lt_of_lt_of_eq (x ⟨2, h⟩).isLt (Nat.zero_add _).symm⟩
  | ⟨3, h⟩ => exact ⟨Nat.zero_le _, lt_of_lt_of_eq (x ⟨3, h⟩).isLt (Nat.zero_add _).symm⟩

theorem pieces_disjoint (p q : Bool × Fin 4) (h : p ≠ q) : Disjoint (wR p.1 p.2).set (wR q.1 q.2).set := by
  rw [Finset.disjoint_left]
  intro i hi hj
  have h1 := Rect.mem_set_unit.mp hi 1
  have g1 := Rect.mem_set_unit.mp hj 1
  have a := h1.1; have b := h1.2; have c := g1.1; have d := g1.2
  change 1024 * p.1.toNat + 256 * p.2.val ≤ (i 1).val at a; change (i 1).val < 1024 * p.1.toNat + 256 * p.2.val + 256 at b
  change 1024 * q.1.toNat + 256 * q.2.val ≤ (i 1).val at c; change (i 1).val < 1024 * q.1.toNat + 256 * q.2.val + 256 at d
  obtain ⟨pd, pb⟩ := p
  obtain ⟨qd, qb⟩ := q
  have hp := pb.isLt
  have hq := qb.isLt
  cases pd <;> cases qd <;> simp only [Bool.toNat_false, Bool.toNat_true] at a b c d
  · exact h (Prod.ext rfl (Fin.ext (by show pb.val = qb.val; omega)))
  · omega
  · omega
  · exact h (Prod.ext rfl (Fin.ext (by show pb.val = qb.val; omega)))

theorem pieces_cover (x : S512x2048.Idx) : ∃ p : Bool × Fin 4, x ∈ (wR p.1 p.2).set := by
  have hx : (x 1).val < 2048 := (x 1).isLt
  refine ⟨(decide (1024 ≤ (x 1).val), ⟨(x 1).val % 1024 / 256, by omega⟩), Rect.mem_set_unit.mpr fun a => ?_⟩
  match a with
  | ⟨0, h⟩ => exact ⟨Nat.zero_le _, lt_of_lt_of_eq (x ⟨0, h⟩).isLt (Nat.zero_add _).symm⟩
  | ⟨1, _⟩ =>
    show 1024 * (decide (1024 ≤ (x 1).val)).toNat + 256 * ((x 1).val % 1024 / 256) ≤ (x 1).val
      ∧ (x 1).val < 1024 * (decide (1024 ≤ (x 1).val)).toNat + 256 * ((x 1).val % 1024 / 256) + 256
    by_cases h : 1024 ≤ (x 1).val
    · rw [decide_eq_true h]; simp only [Bool.toNat_true]; omega
    · rw [decide_eq_false h]; simp only [Bool.toNat_false]; omega

theorem comm_whole (d : Bool) : (commM d).view.set = Finset.univ := by
  cases d
  · exact View.set_whole _
  · exact View.set_whole _

/-- Device `c` holds all of the slots of one direction, at some contents. -/
def scratch (c : Dev nD) (d : Bool) : sProp 𝕄 :=
  iprop(∃ f : Buf (Elt F) ((commM d).view.loc (c : Thread nD τ)), ((commM d).view.loc (c : Thread nD τ)) ↦{fullShare} f)

omit [FloatOps F] in
theorem scratch_cut (c : Dev nD) (d : Bool) : scratch c d ⊢ bigSep Finset.univ fun p : Fin 4 × Fin 4 => slotAny (F := F) c d p.1 p.2 := by
  unfold scratch
  refine (cut c (commM d) (fun p : Fin 4 × Fin 4 => slotR p.1 p.2) slots_disjoint slots_cover (comm_whole d)).trans ?_
  exact fam_mono fun p => Entails.of_eq (holds_reshape c ((commM d).access (slotR p.1 p.2)) _).symm

theorem scratch_join (c : Dev nD) (d : Bool) : (bigSep Finset.univ fun p : Fin 4 × Fin 4 => slotAny (F := F) c d p.1 p.2) ⊢ scratch c d := by
  unfold scratch
  refine BIBase.Entails.trans ?_ (join c (commM d) (fun p : Fin 4 × Fin 4 => slotR p.1 p.2) slots_disjoint slots_cover (comm_whole d) (fun _ => default))
  exact fam_mono fun p => Entails.of_eq (holds_reshape c ((commM d).access (slotR p.1 p.2)) _)

omit [FloatOps F] in
theorem out_cut (c : Dev nD) (f : Buf (Elt F) ((c : Thread nD τ).loc cc0_stg2_0)) :
    (((c : Thread nD τ).loc cc0_stg2_0) ↦{fullShare} f) ⊢ (bigSep Finset.univ fun p : Bool × Fin 4 => pieceAny (F := F) c p.1 p.2 : sProp 𝕄) := by
  refine BIBase.Entails.trans ?_ (cut c oM (fun p : Bool × Fin 4 => wR p.1 p.2) pieces_disjoint pieces_cover (View.set_whole _))
  iintro H; iexists f; iexact H

theorem out_join (c : Dev nD) : (bigSep Finset.univ fun p : Bool × Fin 4 => pieceAt m c p.1 p.2)
    ⊢ (((c : Thread nD τ).loc cc0_stg2_0) ↦{fullShare} outAt m c : sProp 𝕄) :=
  Entails.of_eq (Idealize.ShloMosaic.Ring.pointsTo_blocks (ℓ := (c : Thread nD τ).loc cc0_stg2_0) (fun p : Bool × Fin 4 => (oM.access (wR p.1 p.2)).set)
    (access_disjoint oM (fun p : Bool × Fin 4 => wR p.1 p.2) pieces_disjoint)
    (access_cover c oM (fun p : Bool × Fin 4 => wR p.1 p.2) pieces_cover (View.set_whole _)) (outAt m c)).symm

/-! ## Families over hops, pieces and slots -/

section Families

omit [FloatOps F] in
theorem bigSep_pieces (Φ : Bool × Fin 4 → sProp 𝕄) : bigSepL pieces Φ = bigSep Finset.univ Φ :=
  (bigSep_univ_eq_bigSepL pieces (by decide) (by decide) Φ).symm
omit [FloatOps F] in
theorem bigSep_hops (Φ : Hop → sProp 𝕄) : bigSepL hopList Φ = bigSep Finset.univ Φ :=
  (bigSep_univ_eq_bigSepL hopList (by decide) (by decide) Φ).symm

omit [FloatOps F] in
/-- A family over the hops, hop number by hop number. -/
theorem bigSep_rounds (Φ : Hop → sProp 𝕄) : bigSep Finset.univ Φ
    = iprop((bigSep Finset.univ fun p : Bool × Fin 4 => Φ (p.1, p.2, 0)) ∗ (bigSep Finset.univ fun p : Bool × Fin 4 => Φ (p.1, p.2, 1))
      ∗ (bigSep Finset.univ fun p : Bool × Fin 4 => Φ (p.1, p.2, 2))) := by
  rw [← bigSep_hops]
  unfold hopList round
  rw [bigSepL_append, bigSepL_append, bigSepL_map, bigSepL_map, bigSepL_map, bigSep_pieces, bigSep_pieces, bigSep_pieces]

omit [FloatOps F] in
/-- A family over the slots of one direction: the slots sent from first, and those landed in. -/
theorem bigSep_first (Φ : Fin 4 → Fin 4 → sProp 𝕄) : (bigSep Finset.univ fun p : Fin 4 × Fin 4 => Φ p.1 p.2)
    = iprop((bigSep Finset.univ fun b : Fin 4 => Φ b 0) ∗ bigSep Finset.univ fun p : Fin 4 × Fin 3 => Φ p.1 p.2.succ) := by
  rw [bigSep_univ_prod, bigSep_univ_prod, ← bigSep_sep']
  exact bigSep_congr fun b _ => by
    rw [bigSep_univ_eq_bigSepL [0, 1, 2, 3] (by decide) (by decide), bigSep_univ_eq_bigSepL [0, 1, 2] (by decide) (by decide)]
    rfl

omit [FloatOps F] in
/-- A family over the slots of one direction: the slots sent from, and those landed in last. -/
theorem bigSep_last (Φ : Fin 4 → Fin 4 → sProp 𝕄) : (bigSep Finset.univ fun p : Fin 4 × Fin 4 => Φ p.1 p.2)
    = iprop((bigSep Finset.univ fun b : Fin 4 => Φ b 3) ∗ bigSep Finset.univ fun p : Fin 4 × Fin 3 => Φ p.1 p.2.castSucc) := by
  rw [bigSep_univ_prod, bigSep_univ_prod, ← bigSep_sep']
  exact bigSep_congr fun b _ => by
    rw [bigSep_univ_eq_bigSepL [3, 0, 1, 2] (by decide) (by decide), bigSep_univ_eq_bigSepL [0, 1, 2] (by decide) (by decide)]
    rfl

omit [FloatOps F] in
theorem bigSep_dirs (Φ : Bool → sProp 𝕄) : bigSep Finset.univ Φ = iprop(Φ false ∗ Φ true) :=
  bigSep_univ_eq_bigSepL [false, true] (by decide) (by decide) Φ

omit [FloatOps F] in
/-- Both directions' buffers are the slots sent from first, and what the two neighbours are handed at the barrier. -/
theorem scratch_start (c : Dev nD) : (bigSep Finset.univ fun d => scratch (F := F) c d)
    ⊢ iprop((bigSep Finset.univ fun p : Bool × Fin 4 => slotAny (F := F) c p.1 p.2 0) ∗ barPay (F := F) (src false c) false ∗ barPay (F := F) (src true c) true) := by
  have hb : ∀ d, barPay (F := F) (src d c) d = bigSep Finset.univ fun p : Fin 4 × Fin 3 => slotAny c d p.1 p.2.succ := fun d => by
    unfold barPay; rw [tgt_src]
  refine (fam_mono (Ψ := fun d => iprop((bigSep Finset.univ fun b : Fin 4 => slotAny (F := F) c d b 0) ∗ barPay (F := F) (src d c) d)) fun d => ?_).trans ?_
  · rw [hb, ← bigSep_first fun b s => slotAny (F := F) c d b s]
    exact scratch_cut c d
  · rw [bigSep_sep', bigSep_univ_prod, bigSep_dirs fun d => barPay (F := F) (src d c) d]

/-- The slots sent from, and those landed in last, are both directions' buffers. -/
theorem scratch_end (c : Dev nD) :
    iprop((bigSep Finset.univ fun p : Bool × Fin 4 => slotAny (F := F) c p.1 p.2 3) ∗ bigSep Finset.univ fun h : Hop => slotAny (F := F) c h.1 h.2.1 h.2.2.castSucc)
      ⊢ bigSep Finset.univ fun d => scratch (F := F) c d := by
  rw [bigSep_univ_prod, bigSep_univ_prod, ← bigSep_sep']
  refine fam_mono fun d => ?_
  rw [← bigSep_last fun b s => slotAny (F := F) c d b s]
  exact scratch_join c d

end Families

/-! ## The body -/

/-- What the launch gives device `c` for hop `h`: the duties it will pay, its cells' positions, the credit of its arrival here. -/
def ticket (c : Dev nD) (h : Hop) : sProp 𝕄 :=
  iprop(dutyTok ER (hopCell c false h) 0 false ∗ dutyTok ER (hopCell (tgt h.1 c) true h) 0 false
    ∗ atPos ER (hopCell c false h) 0 ∅ 0 ∗ atPos ER (hopCell c true h) 0 ∅ 0
    ∗ cred (tallyAt (hopCell c true h) () N))

omit [FloatOps F] in
theorem pend_intro (c : Dev nD) : iprop((bigSep Finset.univ fun h => ticket (F := F) c h) ∗ barPay (F := F) c false ∗ barPay (F := F) c true)
    ⊢ bigSep Finset.univ fun h => pend (F := F) c h := by
  have hb : iprop(barPay (F := F) c false ∗ barPay (F := F) c true) = bigSep Finset.univ fun h : Hop => slotAny (F := F) (tgt h.1 c) h.1 h.2.1 h.2.2.succ := by
    rw [bigSep_univ_prod, bigSep_dirs]; rfl
  rw [hb, ← bigSep_sep']
  refine fam_mono fun h => ?_
  unfold ticket pend
  iintro ⟨⟨H1, H2, H3, H4, H5⟩, H6⟩
  isplitl [H1]; · iexact H1
  isplitl [H2]; · iexact H2
  isplitl [H3]; · iexact H3
  isplitl [H4]; · iexact H4
  isplitl [H5] <;> iassumption

/-- The counters of device `c`'s transfer semaphores, at zero. -/
def zeros (c : Dev nD) : sProp 𝕄 := bigSep Finset.univ fun h : Hop => iprop(semVal (hopCell c false h) 0 ∗ semVal (hopCell c true h) 0)

theorem done_out (c : Dev nD) : (bigSep Finset.univ fun h => done m c h)
    ⊢ iprop(zeros (F := F) c ∗ bigSep Finset.univ fun h : Hop => slotAny (F := F) c h.1 h.2.1 h.2.2.castSucc) := by
  unfold zeros
  rw [← bigSep_sep']
  refine fam_mono fun h => ?_
  unfold done
  iintro ⟨H1, H2, H3⟩
  ihave H3 := (holdsAt_holds c _ _) $$ H3
  isplitl [H1 H2]
  · isplitl [H1] <;> iassumption
  iexact H3

theorem dev1_eq (c : Dev nD) : (⟨k0_dev1 c, k0_dev1_lt c⟩ : Dev nD) = src false c := by revert c; decide +kernel
theorem dev2_eq (c : Dev nD) : (⟨k0_dev2 c, k0_dev2_lt c⟩ : Dev nD) = src true c := by revert c; decide +kernel

section Run
variable (K : Dev nD × CI → ℕ) (c : Dev nD) {Q : PUnit → sProp (MT nD τ sig Unit (Elt F) ℕ (UR sig nD τ × URounds (GSem nD τ sig) Bool) ℕ)}

theorem lv_bar : lv (barCell c) () = 1 := rfl

/-- The body after the barrier. -/
theorem tail_run :
    iprop(core m K c hopList ∗ (bigSep Finset.univ fun h => pend (F := F) c h) ∗ (bigSep Finset.univ fun p : Bool × Fin 4 => slotAny (F := F) c p.1 p.2 0)
        ∗ bigSep Finset.univ fun p : Bool × Fin 4 => pieceAny (F := F) c p.1 p.2)
      ⊢ iprop((core m K c [] ∗ (bigSep Finset.univ fun h => done m c h) ∗ (bigSep Finset.univ fun p : Bool × Fin 4 => slotAny (F := F) c p.1 p.2 3)
          ∗ (bigSep Finset.univ fun p : Bool × Fin 4 => pieceAt m c p.1 p.2) -∗ wpAt c (Prog.ret ⟨⟩) Q) -∗ wpAt c (tailP c) Q) := by
  have s0 := fun k => first_run (F := F) m K c (Q := Q) (round 1 ++ round 2) k
  have s1 := fun k => mid_run (F := F) m K c (Q := Q) 0 1 rfl (round 2) (by decide) k
  have s2 := fun k => mid_run (F := F) m K c (Q := Q) 1 2 rfl [] (fun a ha => absurd ha List.not_mem_nil) k
  have s3 := fun k => last_run (F := F) m K c (Q := Q) k
  have s4 := fun k => wait_run (F := F) m K c (Q := Q) hopList k
  simp only [bigSep_pieces, bigSep_hops, bigSep_sep', List.append_nil] at s0 s1 s2 s3 s4
  unfold tailP
  iintro ⟨HC, Hp, Hs, Ho⟩ Hk
  ihave Hp := (Entails.of_eq (bigSep_rounds fun h => pend (F := F) c h)) $$ Hp
  icases Hp with ⟨Hp0, Hp1, Hp2⟩
  iapply (s0 _) $$ [HC Hp0 Hs]
  · isplitl [HC]; · iexact HC
    isplitl [Hp0] <;> iassumption
  iintro ⟨HC, Hf⟩
  iapply (s1 _) $$ [HC Hf Hp1]
  · isplitl [HC]; · iexact HC
    isplitl [Hf] <;> iassumption
  iintro ⟨HC, Hg0, Hf⟩
  iapply (s2 _) $$ [HC Hf Hp2]
  · isplitl [HC]; · iexact HC
    isplitl [Hf] <;> iassumption
  iintro ⟨HC, Hg1, Hf⟩
  iapply (s3 _) $$ [HC Hf Ho]
  · isplitl [HC]; · iexact HC
    isplitl [Hf] <;> iassumption
  iintro ⟨HC, Hg2, Hs, Ho⟩
  iapply (s4 _) $$ [HC Hg0 Hg1 Hg2]
  · isplitl [HC]; · iexact HC
    iapply (Entails.of_eq (bigSep_rounds fun h => got (F := F) c h).symm)
    isplitl [Hg0]; · iexact Hg0
    isplitl [Hg1] <;> iassumption
  iintro ⟨HC, Hd⟩
  iapply Hk
  isplitl [HC]; · iexact HC
  isplitl [Hd]; · iexact Hd
  isplitl [Hs] <;> iassumption

/-- The whole body: from both inputs staged, the buffers at any contents and what the launch gave, to the result's
    staging buffer at its final contents, nothing owed and every counter at zero. -/
theorem body_run (f : Buf (Elt F) ((c : Thread nD τ).loc cc0_stg2_0)) (W : Waits sig Unit) :
    iprop(records m K ∗ levAts L lv ∗ xPts m c ∗ wPts m c ∗ owes (c : Thread nD τ) (O₀ c) W
        ∗ atPos ER (barCell c) 0 ∅ 0 ∗ cred (tallyAt (barCell c) () 2)
        ∗ dutyTok ER (barCell (src false c)) 0 false ∗ dutyTok ER (barCell (src true c)) 0 true
        ∗ (bigSep Finset.univ fun h => ticket (F := F) c h) ∗ (bigSep Finset.univ fun d => scratch (F := F) c d)
        ∗ (((c : Thread nD τ).loc cc0_stg2_0) ↦{fullShare} f))
      ⊢ iprop((xPts m c ∗ wPts m c ∗ (∃ W, owes (c : Thread nD τ) 0 W) ∗ semVal (barCell c) 0 ∗ zeros (F := F) c
          ∗ (bigSep Finset.univ fun d => scratch (F := F) c d) ∗ (((c : Thread nD τ).loc cc0_stg2_0) ↦{fullShare} outAt m c) -∗ Q ⟨⟩)
        -∗ wpAt c (bodyP c) Q) := by
  unfold bodyP
  rw [dev1_eq, dev2_eq]
  iintro ⟨#HR, #Hlev, Hx, Hw, HO, HaB, HcB, HtF, HtT, Htk, Hscr, Hout⟩ Hk
  ihave Hscr := (scratch_start (F := F) c) $$ Hscr
  icases Hscr with ⟨Hs0, HpF, HpT⟩
  ihave HIF := (records_at m K (src false c, none)) $$ HR
  icases HIF with ⟨#HIF, #HrF⟩
  ihave HIT := (records_at m K (src true c, none)) $$ HR
  icases HIT with ⟨#HIT, #HrT⟩
  ihave HIB := (records_at m K (c, none)) $$ HR
  icases HIB with ⟨#HIB, -⟩
  iapply (Rounds.wp_signal 𝒱₀ ER (ringRd m) (c : Thread nD τ) none (dst := (src false c : Thread nD τ)) (κ := K (src false c, none))
      (d := false) (by rw [duties_bar]; exact Finset.mem_univ _) ((amount_bar m (src false c) false).trans (by decide)) () (O₁ c) rfl)
    $$ [HO HtF HpF]
  · isplitr; · iexact HIF
    isplitl [HO]; · iexact HO
    isplitl [HtF]; · iexact HtF
    isplitl [HpF]; · rw [payload_bar]; iexact HpF
    iexact HrF
  iintro HO
  unfold O₁
  iapply (Rounds.wp_signal 𝒱₀ ER (ringRd m) (c : Thread nD τ) none (dst := (src true c : Thread nD τ)) (κ := K (src true c, none))
      (d := true) (by rw [duties_bar]; exact Finset.mem_univ _) ((amount_bar m (src true c) true).trans (by decide)) () (owed c hopList) rfl)
    $$ [HO HtT HpT]
  · isplitr; · iexact HIT
    isplitl [HO]; · iexact HO
    isplitl [HtT]; · iexact HtT
    isplitl [HpT]; · rw [payload_bar]; iexact HpT
    iexact HrT
  iintro HO
  iapply (Rounds.wp_wait_rest_token 𝒱₀ ER (ringRd m) (c : Thread nD τ) none (κ := K (c, none))
      (wpE_semWait_eq 𝒱₀ (c : Thread nD τ) none Set.univ) (Set.mem_univ _) () (O := owed c hopList) (W := W) (R := 0) (m := 0) (T := ∅)
      (by rw [expect_bar])) $$ [HcB HO HaB]
  · isplitr; · iexact HIB
    isplitl [HcB]; · iexact HcB
    isplitl [HO]; · iexact HO
    isplitr
    · iapply (mayWait_owed c (.reg barS) hopList (fun h _ => by rw [lv_bar]; omega))
      iexact Hlev
    iexact HaB
  iintro ⟨HO, HaB, -, Hpay⟩
  ihave Hp := (Entails.of_eq (rest_bar m c)) $$ Hpay
  imod (Rounds.cell_close ER (ringRd m) (Set.mem_univ (K (c, none))) (fun h => h) (R := 0 + 1) (duties_later m (barCell c))) $$ [HaB] with HzB
  · isplitr; · iexact HIB
    iexact HaB
  ihave Hpd := (pend_intro (F := F) c) $$ [Htk Hp]
  · isplitl [Htk] <;> iassumption
  ihave Hout := (out_cut (F := F) c f) $$ Hout
  iapply (tail_run m K c) $$ [Hx Hw HO Hpd Hs0 Hout]
  · unfold core
    isplitl [Hx Hw HO]
    · isplitr; · iexact HR
      isplitr; · iexact Hlev
      isplitl [Hx]; · iexact Hx
      isplitl [Hw]; · iexact Hw
      iexists _; iexact HO
    isplitl [Hpd]; · iexact Hpd
    isplitl [Hs0] <;> iassumption
  unfold core
  iintro ⟨⟨-, -, Hx, Hw, HO⟩, Hd, Hs, Ho⟩
  ihave Hd := (done_out m c) $$ Hd
  icases Hd with ⟨Hz, Hs'⟩
  ihave Hscr := (scratch_end (F := F) c) $$ [Hs Hs']
  · isplitl [Hs] <;> iassumption
  ihave Ho := (out_join m c) $$ Ho
  iapply (ret_step c)
  iapply Hk
  isplitl [Hx]; · iexact Hx
  isplitl [Hw]; · iexact Hw
  isplitl [HO]; · iexact HO
  isplitl [HzB]; · iexact HzB
  isplitl [Hz]; · iexact Hz
  isplitl [Hscr] <;> iassumption

end Run

end Cert.Ring

end
-- ==== Proof.Launch.lean ====
/-
  The launch: the ring's resources made once for all devices, dealt to the devices that use them, and the
  credit for what the neighbours owe.
-/
module

public import proofs.«01_k».proof.Proof.Body

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the duties, enumerated -/

/-- The ring's own transfer semaphores. -/
abbrev osem (p : Bool × Hop) : SemLoc sig := .dma (hopSem p.1 p.2)

theorem hopSem_inj {p q : Bool × Hop} (h : hopSem p.1 p.2 = hopSem q.1 q.2) : p = q := by
  have h' := congrArg (fun s : DmaSem sig => hopOf s.val) h
  simp only [hopOf_hopSem] at h'
  exact Option.some.inj h'

theorem csem_injective : Function.Injective csem := by
  intro a b h
  cases a <;> cases b
  · rfl
  · cases h
  · cases h
  · exact congrArg some (hopSem_inj (SemLoc.dma.inj h))

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

def ringCells : Finset (GSem nD τ sig) := Finset.univ.map ⟨kcell, kcell_injective⟩

/-- A device's duties: two at its barrier, one at each of its transfer semaphores. -/
abbrev TI : Type := Bool ⊕ (Bool × Hop)

abbrev tokOf (p : Dev nD × TI) : GSem nD τ sig × ℕ × Bool := match p.2 with
  | .inl d => (barCell p.1, 0, d)
  | .inr q => (hopCell p.1 q.1 q.2, 0, false)

theorem tokOf_injective : Function.Injective tokOf := by
  rintro ⟨c, j⟩ ⟨c', j'⟩ h
  have hc : (tokOf (c, j)).1 = (tokOf (c', j')).1 := congrArg Prod.fst h
  have hd : (tokOf (c, j)).2.2 = (tokOf (c', j')).2.2 := congrArg (fun x => x.2.2) h
  rcases j with d | q <;> rcases j' with d' | q'
  · have h1 : c = c' := congrArg (fun g : GSem nD τ sig => g.1.1) hc
    rw [h1, show d = d' from hd]
  · exact absurd (congrArg Prod.snd hc) (fun e => by cases e)
  · exact absurd (congrArg Prod.snd hc) (fun e => by cases e)
  · have h1 := kcell_injective (show kcell (c, some q) = kcell (c', some q') from hc)
    have h2 : c = c' := congrArg Prod.fst h1
    have h3 : q = q' := Option.some.inj (congrArg Prod.snd h1)
    rw [h2, h3]

def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

section Enumerations
omit [FloatOps F]

/-- One for the barrier, and one for each transfer semaphore. -/
theorem bigSep_cells (Φ : CI → sProp 𝕄) : bigSep Finset.univ Φ = iprop(Φ none ∗ bigSep Finset.univ fun p : Bool × Hop => Φ (some p)) := by
  rw [show (Finset.univ : Finset CI) = insert none (Finset.univ.map Function.Embedding.some) from by ext x; cases x <;> simp,
    BI.bigSep_insert (by simp), bigSep_map]
  rfl

theorem bigSep_kinds (Φ : Bool × Hop → sProp 𝕄) :
    bigSep Finset.univ Φ = iprop((bigSep Finset.univ fun h : Hop => Φ (false, h)) ∗ bigSep Finset.univ fun h : Hop => Φ (true, h)) := by
  rw [bigSep_univ_prod, bigSep_dirs]

/-- A family over the devices, member `c` read at `tgt d c` instead. -/
theorem around_tgt (d : Bool) (Φ : Dev nD → sProp 𝕄) : bigSep Finset.univ Φ = bigSep Finset.univ fun c => Φ (tgt d c) :=
  bigSep_univ_equiv (turn d) Φ
theorem around_src (d : Bool) (Φ : Dev nD → sProp 𝕄) : bigSep Finset.univ Φ = bigSep Finset.univ fun c => Φ (src d c) :=
  bigSep_univ_equiv (turn d).symm Φ

end Enumerations

/-! ## What the launch deals -/

/-- The duties of device `c`'s own cells. -/
def toks (c : Dev nD) : sProp 𝕄 :=
  iprop((dutyTok ER (barCell c) 0 false ∗ dutyTok ER (barCell c) 0 true)
    ∗ (bigSep Finset.univ fun h : Hop => dutyTok ER (hopCell c false h) 0 false) ∗ bigSep Finset.univ fun h : Hop => dutyTok ER (hopCell c true h) 0 false)

/-- The duties device `c` pays. -/
def payToks (c : Dev nD) : sProp 𝕄 :=
  iprop((dutyTok ER (barCell (src false c)) 0 false ∗ dutyTok ER (barCell (src true c)) 0 true)
    ∗ (bigSep Finset.univ fun h : Hop => dutyTok ER (hopCell c false h) 0 false) ∗ bigSep Finset.univ fun h : Hop => dutyTok ER (hopCell (tgt h.1 c) true h) 0 false)

/-- Device `c`'s positions at its cells. -/
def spots (c : Dev nD) : sProp 𝕄 := bigSep Finset.univ fun k : CI => atPos ER (kcell (c, k)) 0 ∅ 0

/-- What the launch deals device `c` before anything is shared. -/
def G (c : Dev nD) : sProp 𝕄 :=
  iprop((bigSep Finset.univ fun k : CI => roundState ER (ringRd m) (kcell (c, k)) 0)
    ∗ (spots (F := F) c ∗ bigSep Finset.univ fun k : CI => reached ER (kcell (c, k)) 0) ∗ toks c)

/-- What device `c` starts from. -/
def G' (c : Dev nD) : sProp 𝕄 := iprop(∃ K, records m K ∗ spots (F := F) c ∗ payToks c)

omit [FloatOps F] in
theorem toks_around : (bigSep Finset.univ fun c : Dev nD => (toks c : sProp 𝕄)) ⊢ bigSep Finset.univ fun c : Dev nD => payToks c := by
  unfold toks payToks
  simp only [bigSep_sep']
  rw [around_src false (fun c => (dutyTok ER (barCell c) 0 false : sProp 𝕄)), around_src true (fun c => (dutyTok ER (barCell c) 0 true : sProp 𝕄)),
    bigSep_univ_comm (fun (c : Dev nD) (h : Hop) => (dutyTok ER (hopCell c true h) 0 false : sProp 𝕄)),
    bigSep_univ_comm (fun (c : Dev nD) (h : Hop) => (dutyTok ER (hopCell (tgt h.1 c) true h) 0 false : sProp 𝕄)),
    bigSep_congr (s := Finset.univ) (fun (h : Hop) _ => around_tgt h.1 (fun c => (dutyTok ER (hopCell c true h) 0 false : sProp 𝕄)))]

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_dirs, bigSep_kinds]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G spots; simp only [bigSep_sep']
  isplitl [Hst']; · iexact Hst'
  isplitl [Hat' Hr']
  · isplitl [Hat'] <;> iassumption
  iexact Htok'

section Sems
omit [FloatOps F]

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem ownSems0_eq (c : Dev nD) : (Pipeline.ownSems0 (Ix := Unit) (Name := ℕ) (U := UU) (Lvl := ℕ) (Val := Elt F) (τ := τ) osem c : sProp 𝕄) = zeros (F := F) c := by
  unfold Pipeline.ownSems0 zeros
  rw [bigSep_kinds, bigSep_sep']

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  unfold Pipeline.ownSems0
  rw [unscopedSems0_eq, bigSep_cells]
  iintro ⟨HO, HB⟩
  isplitl [HB] <;> iassumption

end Sems

/-- One device's cells opened to sharing. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (spots (F := F) c ∗ bigSep Finset.univ fun k : CI => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat] <;> iassumption

omit [FloatOps F] in
/-- A shared fact brought into every member of a family. -/
theorem fam_with {I : Type} [Fintype I] [DecidableEq I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k => iprop(∃ κ : ℕ, cellInv ER (ringRd m) κ (kcell (c, k))))
          ∗ (spots (F := F) c ∗ bigSep Finset.univ fun k : CI => reached ER (kcell (c, k)) 0) ∗ toks c) : sProp 𝕄)
      ⊢ bigSep Finset.univ (G' m) := by
  rw [bigSep_sep', bigSep_sep', bigSep_sep', ← bigSep_univ_prod (fun p : Dev nD × CI => iprop(∃ κ : ℕ, cellInv ER (ringRd m) κ (kcell p))),
    ← bigSep_univ_prod (fun p : Dev nD × CI => (reached ER (kcell p) 0 : sProp 𝕄))]
  iintro ⟨HI, ⟨Hat, HR⟩, Htok⟩
  ihave HK := (BI.bigSep_exists_pi Finset.univ (fun (p : Dev nD × CI) (κ : ℕ) => (cellInv ER (ringRd m) κ (kcell p) : sProp 𝕄))) $$ HI
  icases HK with ⟨%K, HI⟩
  ihave Htk := (toks_around (F := F)) $$ Htok
  iapply (fam_with (R := records m K) (Φ := fun c => iprop(spots (F := F) c ∗ payToks c)) fun c => show _ ⊢ G' m c from by
    unfold G'
    iintro H
    iexists K; iexact H)
  isplitl [HI HR]
  · unfold records
    rw [bigSep_sep']
    isplitl [HI] <;> iassumption
  · rw [bigSep_sep']
    isplitl [Hat] <;> iassumption

/-- The global step: every device's semaphores opened to sharing at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit for what the neighbours owe -/

section Credit
omit [FloatOps F]

theorem hop_ne_bar (c c' : Dev nD) (k : Bool) (h : Hop) : hopCell c k h ≠ barCell c' := fun e => by
  have := congrArg Prod.snd e; cases this

theorem bar_eq_iff {a b : Dev nD} : Iff (barCell a = barCell b) (a = b) :=
  ⟨fun h => congrArg (fun g : GSem nD τ sig => g.1.1) h, fun h => h ▸ rfl⟩

theorem hop_eq_iff {a b : Dev nD} {h h' : Hop} : Iff (hopCell a true h = hopCell b true h') (a = b ∧ h = h') :=
  ⟨fun e => by
    have h1 := kcell_injective (show kcell (a, some (true, h)) = kcell (b, some (true, h')) from e)
    exact ⟨congrArg Prod.fst h1, congrArg (fun p : Bool × Hop => p.2) (Option.some.inj (congrArg Prod.snd h1))⟩,
   fun ⟨e, e'⟩ => by rw [e, e']⟩

theorem tgt_eq_iff {d : Bool} {a b : Dev nD} : Iff (tgt d a = b) (a = src d b) :=
  ⟨fun h => by rw [← h, src_tgt], fun h => by rw [h, tgt_src]⟩
theorem src_eq_iff {d : Bool} {a b : Dev nD} : Iff (src d a = b) (a = tgt d b) :=
  ⟨fun h => by rw [← h, tgt_src], fun h => by rw [h, src_tgt]⟩

theorem owed_at_bar (d c : Dev nD) (l : List Hop) : owed d l (barCell c) () = 0 := by
  by_contra h
  obtain ⟨h', -, e⟩ := owed_pos (Nat.pos_of_ne_zero h)
  exact hop_ne_bar _ _ _ _ e.symm

/-- The list's hops are the only ones owed, each once. -/
theorem owed_at_hop (d c : Dev nD) (h : Hop) (l : List Hop) (hl : l.Nodup) :
    owed d l (hopCell c true h) () = if h ∈ l ∧ d = src h.1 c then N else 0 := by
  induction l with
  | nil => rw [if_neg (fun e => by cases e.1)]; rfl
  | cons a l ih =>
    unfold owed
    rw [Pi.add_apply, Finsupp.add_apply, tallyAt_apply, ih (List.nodup_cons.mp hl).2]
    by_cases ha : h = a
    · subst ha
      rw [if_neg (fun e => (List.nodup_cons.mp hl).1 e.1), Nat.zero_add]
      refine if_congr ⟨fun e => ⟨List.mem_cons_self, tgt_eq_iff.mp (hop_eq_iff.mp e.1).1.symm⟩, fun e => ⟨hop_eq_iff.mpr ⟨(tgt_eq_iff.mpr e.2).symm, rfl⟩, rfl⟩⟩ rfl rfl
    · rw [if_neg (fun e : hopCell c true h = hopCell (tgt a.1 d) true a ∧ () = () => ha (hop_eq_iff.mp e.1).2), Nat.add_zero]
      refine if_congr ⟨fun e => ⟨List.mem_cons_of_mem _ e.1, e.2⟩, fun e => ⟨(List.mem_cons.mp e.1).resolve_left ha, e.2⟩⟩ rfl rfl

theorem hopList_nodup : hopList.Nodup := by decide +kernel
theorem mem_hopList (h : Hop) : h ∈ hopList := by revert h; decide +kernel

theorem O₀_bar (d c : Dev nD) : O₀ d (barCell c) () = (if d = tgt true c then 1 else 0) + (if d = tgt false c then 1 else 0) := by
  unfold O₀ O₁
  rw [Pi.add_apply, Finsupp.add_apply, Pi.add_apply, Finsupp.add_apply, tallyAt_apply, tallyAt_apply, owed_at_bar, Nat.zero_add]
  congr 1
  · exact if_congr ⟨fun e => src_eq_iff.mp (bar_eq_iff.mp e.1).symm, fun e => ⟨bar_eq_iff.mpr (src_eq_iff.mpr e).symm, rfl⟩⟩ rfl rfl
  · exact if_congr ⟨fun e => src_eq_iff.mp (bar_eq_iff.mp e.1).symm, fun e => ⟨bar_eq_iff.mpr (src_eq_iff.mpr e).symm, rfl⟩⟩ rfl rfl

theorem O₀_hop (d c : Dev nD) (h : Hop) : O₀ d (hopCell c true h) () = if d = src h.1 c then N else 0 := by
  unfold O₀ O₁
  rw [Pi.add_apply, Finsupp.add_apply, Pi.add_apply, Finsupp.add_apply, tallyAt_ne_cell (hop_ne_bar _ _ _ _), tallyAt_ne_cell (hop_ne_bar _ _ _ _),
    owed_at_hop d c h _ hopList_nodup]
  exact if_congr ⟨fun e => e.2, fun e => ⟨mem_hopList h, e⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (tgt true c) fun _ => 1, Finset.sum_ite_eq' Finset.univ (tgt false c) fun _ => 1, if_pos (Finset.mem_univ _), if_pos (Finset.mem_univ _)]

theorem launch_hop (c : Dev nD) (h : Hop) :
    tallyOn (hopCell c true h) (launchCredit (Pipeline.owing O₀) 0 (hopCell c true h)) = (tallyAt (hopCell c true h) () N : CellTallies nD τ sig Unit) := by
  unfold tallyAt; refine congrArg _ (Finsupp.ext fun u => ?_); cases u
  rw [Pipeline.launchCredit_owing, Finsupp.single_eq_same, Finset.sum_congr rfl fun d _ => O₀_hop d c h, Finset.sum_ite_eq' Finset.univ (src h.1 c) fun _ => N,
    if_pos (Finset.mem_univ _)]

def arrivals : Finset (SemLoc sig) := Finset.univ.map ⟨fun h : Hop => .dma (hopSem true h), fun h h' e => by
  have := hopSem_inj (p := (true, h)) (q := (true, h')) (SemLoc.dma.inj e)
  exact congrArg Prod.snd this⟩

theorem creds (c : Dev nD) :
    (Pipeline.launchCred O₀ c : sProp 𝕄)
      ⊢ iprop(cred (tallyAt (barCell c) () 2) ∗ bigSep Finset.univ fun h : Hop => cred (tallyAt (hopCell c true h) () N)) := by
  unfold Pipeline.launchCred
  rw [bigSep_univ_at _ (SemLoc.reg barS), launch_bar]
  refine sep_mono_right ?_
  refine (BI.bigSep_subset (t := arrivals) fun x hx => ?_).trans ?_
  · obtain ⟨h, -, rfl⟩ := Finset.mem_map.mp hx
    have hne : (SemLoc.dma (hopSem true h) : SemLoc sig) ≠ SemLoc.reg barS := by intro e; cases e
    exact Finset.mem_erase.mpr ⟨hne, Finset.mem_univ _⟩
  · unfold arrivals
    rw [bigSep_map]
    exact bigSep_mono fun h _ => show _ ⊢ cred (tallyAt (hopCell c true h) () N) from Entails.of_eq (congrArg cred (launch_hop c h))

end Credit

end Cert.Ring

end
-- ==== Proof.Run.lean ====
/-
  The run: the pipeline's data for the one grid point, the body's obligation, and the whole program's run
  for any float values.
-/
module

public import proofs.«01_k».proof.Proof.Launch
public import proofs.«01_k».proof.Proof.Gen.KernelIdeal.Points
public import Idealize.ShloMosaic.Lib.Quiescent
public import Idealize.ShloMosaic.Lib.Pipeline.CollectiveSegs
public import Idealize.ShloMosaic.Lib.Pipeline.ValueKit

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

abbrev s₀ : MemSt nD τ sig (Elt F) := ⟨m, fun _ => 0, ρ⟩

/-! ## What the body starts from -/

/-- Device `c`'s shared facts, positions, duties to pay and credit. -/
def start (c : Dev nD) : sProp 𝕄 :=
  iprop(G' m c ∗ (cred (tallyAt (barCell c) () 2) ∗ bigSep Finset.univ fun h : Hop => cred (tallyAt (hopCell c true h) () N)) ∗ levAts L lv)

def Φ₀ (c : Dev nD) : sProp 𝕄 := iprop(start m c ∗ bigSep Finset.univ fun d => scratch (F := F) c d)
def Φ₁ (c : Dev nD) : sProp 𝕄 := iprop(semVal (barCell c) 0 ∗ zeros (F := F) c ∗ bigSep Finset.univ fun d => scratch (F := F) c d)

omit [FloatOps F] in
/-- Positions, duties and credit, sorted hop by hop. -/
theorem tickets (c : Dev nD) :
    iprop(spots (F := F) c ∗ payToks c ∗ bigSep Finset.univ fun h : Hop => cred (tallyAt (hopCell c true h) () N))
      ⊢ (iprop(atPos ER (barCell c) 0 ∅ 0 ∗ dutyTok ER (barCell (src false c)) 0 false ∗ dutyTok ER (barCell (src true c)) 0 true
          ∗ bigSep Finset.univ fun h => ticket c h) : sProp 𝕄) := by
  unfold spots payToks ticket
  rw [bigSep_cells, bigSep_kinds]
  simp only [bigSep_sep']
  iintro ⟨⟨HaB, HaS, HaV⟩, ⟨⟨HtF, HtT⟩, HtS, HtV⟩, Hc⟩
  isplitl [HaB]; · iexact HaB
  isplitl [HtF]; · iexact HtF
  isplitl [HtT]; · iexact HtT
  isplitl [HtS]; · iexact HtS
  isplitl [HtV]; · iexact HtV
  isplitl [HaS]; · iexact HaS
  isplitl [HaV] <;> iassumption

/-! ## The pipeline's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- Device `c` holds the whole of a buffer, with given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m c) ∗ stg c cc0_stg1_0 (wstg m c) ∗ stg c cc0_stg2_0 (outAt m c))

/-- The body, from what the pipeline gives it to what it gives back. -/
theorem body_sound (c : Dev nD) : bodyPre m ρ c ⊢ wpAt c (bodyP (F := F) c) fun _ => bodyPost m ρ c := by
  unfold bodyPre Φ₀ start G'
  iintro ⟨⟨⟨⟨%K, HR, Hsp, Hpay⟩, ⟨HcB, HcV⟩, Hlev⟩, Hscr⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx; subst hw
  unfold Dat.owesAt Pipeline.owesWithin
  icases Ho with ⟨%W, %hW, HO⟩
  ihave HO := (Entails.of_eq (show owes (c : Thread nD τ) ((dats m ρ 0 c).owed t0_0.castSucc) W = owes (c : Thread nD τ) (O₀ c) W from rfl)) $$ HO
  ihave HT := (tickets (F := F) c) $$ [Hsp Hpay HcV]
  · isplitl [Hsp]; · iexact Hsp
    isplitl [Hpay] <;> iassumption
  icases HT with ⟨HaB, HtF, HtT, HT⟩
  ihave Hx := (Entails.of_eq (xPts_eq m c).symm) $$ Hx
  ihave Hw := (Entails.of_eq (wPts_eq m c).symm) $$ Hw
  iapply (body_run m K c g2 W) $$ [HR Hlev Hx Hw HO HaB HcB HtF HtT HT Hscr Hout]
  · isplitl [HR]; · iexact HR
    isplitl [Hlev]; · iexact Hlev
    isplitl [Hx]; · iexact Hx
    isplitl [Hw]; · iexact Hw
    isplitl [HO]; · iexact HO
    isplitl [HaB]; · iexact HaB
    isplitl [HcB]; · iexact HcB
    isplitl [HtF]; · iexact HtF
    isplitl [HtT]; · iexact HtT
    isplitl [HT]; · iexact HT
    isplitl [Hscr] <;> iassumption
  iintro ⟨Hx, Hw, ⟨%W', HO⟩, HzB, Hz, Hscr, Hout⟩
  ihave Hx := (Entails.of_eq (xPts_eq m c)) $$ Hx
  ihave Hw := (Entails.of_eq (wPts_eq m c)) $$ Hw
  unfold bodyPost Φ₁ Dat.owesAt Pipeline.owesWithin
  isplitl [HzB Hz Hscr]
  · isplitl [HzB]; · iexact HzB
    isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 40000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_wp c (fun _ => bodyPost m ρ c) (bodyPre m ρ c) (body_sound m ρ c)

/-! ## The launch's side conditions -/

theorem own_sems : Pipeline.OwnSemFacts cfg0.spec osem where
  isScoped k := by revert k; decide +kernel
  inj p q h := hopSem_inj (SemLoc.dma.inj h)
  disj := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi_start (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  rw [bigSep_dirs]
  unfold scratch
  iintro ⟨Hs, -, Hr⟩
  isplitl [Hs]; · iexact Hs
  iexact Hr

theorem phi_end (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  rw [bigSep_dirs]
  unfold scratch
  exact BIBase.Entails.rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The final contents of each window's array on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- Every fair run of the four devices ends, with every window's array at its final contents and every
    semaphore at zero. -/
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_start m ρ) (hout := phi_end m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _
/-- The one block written back is the whole result. -/
theorem final_out (c : Dev nD) : finalA m ρ c (2 : Fin 3) = outAt m c := by
  unfold finalA
  refine (dats m ρ 0 c).arrAt_eq_of_after_last 2 t0_0 (by decide +kernel) _ fun j => ?_
  blk_simp
  rfl

/-- Every fair run of the four devices ends, with each device's result computed, its arguments as they were,
    and every semaphore at zero. -/
theorem run_main : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun r h => ⟨fun c => ⟨(h.1 c (2 : Fin 3)).trans (final_out m ρ c), (h.1 c (0 : Fin 3)).trans (final_x m ρ c),
    (h.1 c (1 : Fin 3)).trans (final_w m ρ c)⟩, h.2⟩) (run_windows m ρ)

/-- The staged blocks are the whole arguments. -/
theorem xstg_eq (c : Dev nD) : xstg m c = m ((c : Thread nD τ).loc main_arg0) := by
  funext y
  unfold xstg
  have hz : ∀ a, win0_0.index (0 : Fin 1) a = 0 := by decide +kernel
  blk_ext
  · rw [hz, Nat.zero_mul, Nat.zero_add]
  · rw [hz, Nat.zero_mul, Nat.zero_add]
theorem wstg_eq (c : Dev nD) : wstg m c = m ((c : Thread nD τ).loc main_arg1) := by
  funext y
  unfold wstg
  have hz : ∀ a, win0_1.index (0 : Fin 1) a = 0 := by decide +kernel
  blk_ext
  · rw [hz, Nat.zero_mul, Nat.zero_add]
  · rw [hz, Nat.zero_mul, Nat.zero_add]

end Cert.Ring

end
-- ==== Proof.Value.lean ====
/- The values of the ring over the extended reals: a piece's partial sum on its last device is the whole
   product's entry, the activation is the reference's quotient, and the clip is the identity where the
   product lies within its bounds. -/
module

public import proofs.«01_k».proof.Proof.Run
public import proofs.«01_k».proof.Proof.Gen.ReferenceIdeal
public import proofs.«01_k».proof.Proof.Gen.UnclippedIdeal
public import proofs.«01_k».proof.Proof.Gen.On_clip_idle
public import Idealize.ShloMosaic.Lib.Pointwise
public import Idealize.ShloMosaic.Lib.ValueIdx
public import Idealize.ShloMosaic.Lib.Layout

@[expose] public section

noncomputable section

namespace Cert.Ring

open Cert.KernelIdeal Cert.KernelIdeal.Gen

open Idealize.ShloMosaic
open Idealize.ShloMosaic.TcCoe

/-- A whole square operand, and its kind of product. -/
abbrev Whole := FVec Ideal ⟨2, ![2048, 2048]⟩ .f32

variable (m : (ℓ : Loc nD τ sig) → Buf (Elt Ideal) ℓ) (X W : Whole)

/-- Position `t` of device `e`'s share of a whole axis. -/
def whole (e : Dev nD) (t : Fin 512) : Fin 2048 := ⟨e.val * 512 + t.val, by
  have he : e.val < 4 := e.isLt
  have := t.isLt
  omega⟩

/-- Entry `(r, j)` of the product of the whole operands. -/
def entry (r j : Fin 2048) : EReal := ∑ k : Fin 2048, (X (ix2 r k) : EReal) * W (ix2 k j)

/-- What device `e` contributes to that entry: its own 512 positions of the contraction. -/
def part (r j : Fin 2048) (e : Dev nD) : EReal :=
  ∑ t : Fin 512, (X (ix2 r (whole e t)) : EReal)
    * W (ix2 (whole e t) j)

theorem entry_eq_parts (r j : Fin 2048) : entry X W r j = ∑ e : Dev nD, part X W r j e :=
  Fin.sum_univ_tiles 4 512 rfl _

/-- Following the ring upstream from any device meets the four devices. -/
theorem sum_ring (d : Bool) (c : Dev nD) (f : Dev nD → EReal) :
    f (src d (src d (src d c))) + f (src d (src d c)) + f (src d c) + f c = ∑ e : Dev nD, f e := by
  have h : ({src d (src d (src d c)), src d (src d c), src d c, c} : Finset (Dev nD)) = Finset.univ := by
    revert d c; decide
  have h1 : src d (src d (src d c)) ∉ ({src d (src d c), src d c, c} : Finset (Dev nD)) := by revert d c; decide
  have h2 : src d (src d c) ∉ ({src d c, c} : Finset (Dev nD)) := by revert d c; decide
  have h3 : src d c ∉ ({c} : Finset (Dev nD)) := by revert d c; decide
  rw [← h, Finset.sum_insert h1, Finset.sum_insert h2, Finset.sum_insert h3, Finset.sum_singleton]
  simp only [add_assoc]

/-- The arguments are the devices' blocks of the whole operands: `x` cut along its columns, `w` along its rows. -/
def Cut : Prop := ∀ c : Dev nD,
  m ((c : Thread nD τ).loc main_arg0) = Layout.block (⟨2, ![2048, 512]⟩ : Shape) ⟨2, ![2048, 2048]⟩ 1 4 c X
  ∧ m ((c : Thread nD τ).loc main_arg1) = Layout.block (⟨2, ![512, 2048]⟩ : Shape) ⟨2, ![2048, 2048]⟩ 0 4 c W

/-- An entry of a device's block of `x`. -/
theorem xblk_at (h : Cut m X W) (e k : Dev nD) (r t : Fin 512) :
    xblk m e k (ix2 r t) = X (ix2 (whole k r)
      (whole e t)) := by
  have e1 : xstg m e = _ := (xstg_eq m e).trans (h e).1
  unfold xblk
  rw [View.readAt_apply, e1]
  refine congrArg X (funext fun a => Fin.ext ?_)
  match a with
  | ⟨0, _⟩ => show 512 * k.val + 1 * r.val = _; simp only [ix2, whole]; omega
  | ⟨1, _⟩ => show e.val * 512 + (0 + 1 * t.val) = _; simp only [ix2, whole]; omega

/-- An entry of a device's piece of `w`. -/
theorem wblk_at (h : Cut m X W) (e : Dev nD) (d : Bool) (b : Fin 4) (t : Fin 512) (j : Fin 256) (hj : col d b + j.val < 2048) :
    wblk m e d b (ix2 t j) = W (ix2 (whole e t) ⟨col d b + j.val, hj⟩) := by
  have e1 : wstg m e = _ := (wstg_eq m e).trans (h e).2
  unfold wblk
  rw [View.readAt_apply, e1]
  refine congrArg W (funext fun a => Fin.ext ?_)
  match a with
  | ⟨0, _⟩ => show e.val * 512 + (0 + 1 * t.val) = _; simp only [ix2, whole]; omega
  | ⟨1, _⟩ => show col d b + 1 * j.val = _; simp only [ix2, whole]; omega

/-- A block's product is the device's contribution. -/
theorem pay_at (h : Cut m X W) (e k : Dev nD) (d : Bool) (b : Fin 4) (r : Fin 512) (j : Fin 256) (hj : col d b + j.val < 2048) :
    (k0_pay9 (xblk m e k) (wblk m e d b) (ix2 r j) : EReal)
      = part X W (whole k r) ⟨col d b + j.val, hj⟩ e := by
  have e1 : (k0_pay9 (xblk m e k) (wblk m e d b) (ix2 r j) : EReal)
      = ∑ t : Fin 512, (xblk m e k (ix2 r t) : EReal) * wblk m e d b (ix2 t j) := by
    simp only [k0_pay9, pointwise]
    exact zero_add _
  rw [e1]
  exact Finset.sum_congr rfl fun t _ => by rw [xblk_at m X W h, wblk_at m X W h e d b t j hj]

/-- After the last hop a piece holds its entries of the whole product. -/
theorem acc_at (h : Cut m X W) (d : Bool) (b : Fin 4) (c : Dev nD) (r : Fin 512) (j : Fin 256) (hj : col d b + j.val < 2048) :
    (acc m d b 3 c (ix2 r j) : EReal)
      = entry X W (whole c r) ⟨col d b + j.val, hj⟩ := by
  have hp := fun e => pay_at m X W h e (chunk d 3 c) d b r j hj
  have e1 : (acc m d b 3 c (ix2 r j) : EReal)
      = k0_pay9 (xblk m (src d (src d (src d c))) (chunk d 3 c)) (wblk m (src d (src d (src d c))) d b) (ix2 r j)
        + k0_pay9 (xblk m (src d (src d c)) (chunk d 3 c)) (wblk m (src d (src d c)) d b) (ix2 r j)
        + k0_pay9 (xblk m (src d c) (chunk d 3 c)) (wblk m (src d c) d b) (ix2 r j)
        + k0_pay9 (xblk m c (chunk d 3 c)) (wblk m c d b) (ix2 r j) := rfl
  rw [e1, hp, hp, hp, hp, sum_ring d c (part X W _ _), ← entry_eq_parts]
  simp only [chunk_last]

/-- The reference's activation of one value. -/
def act (y : EReal) : EReal := Ideal.div y (1 + Ideal.exp (-y))

theorem one_add_exp_ne_zero (y : EReal) : (1 + Ideal.exp y : EReal) ≠ 0 := by
  have h : (0 : EReal) ≤ Ideal.exp y := by
    induction y with
    | bot => exact le_refl _
    | top => exact le_top
    | coe r => exact EReal.coe_nonneg.mpr (Real.exp_pos r).le
  exact (lt_of_lt_of_le zero_lt_one (le_add_of_nonneg_right h)).ne'

/-- A value times its logistic is the value divided by one plus the exponential of its negative. -/
theorem mul_logistic (y : EReal) : y * Ideal.logistic y = act y := by
  rw [act, Ideal.logistic, Ideal.div, Ideal.div, if_neg (one_add_exp_ne_zero _), if_neg (one_add_exp_ne_zero _), one_mul]

/-- The result on device `c` at an index: the activation of the whole product's entry. -/
theorem outAt_at (h : Cut m X W) (c : Dev nD) (r : Fin 512) (j : Fin 2048) :
    (outAt m c (ix2 r j) : EReal)
      = act (entry X W (whole c r) j) := by
  have hc : col (decide (1024 ≤ j.val)) ⟨j.val % 1024 / 256, by omega⟩ + j.val % 256 = j.val := by
    have := j.isLt
    unfold col
    by_cases h1 : 1024 ≤ j.val
    · rw [decide_eq_true h1]; show 1024 * 1 + 256 * (j.val % 1024 / 256) + _ = _; omega
    · rw [decide_eq_false h1]; show 1024 * 0 + 256 * (j.val % 1024 / 256) + _ = _; omega
  have ha := acc_at m X W h (decide (1024 ≤ j.val)) ⟨j.val % 1024 / 256, by omega⟩ c r ⟨j.val % 256, Nat.mod_lt _ (by decide)⟩
    (hc.trans_lt j.isLt)
  have hi : (⟨col (decide (1024 ≤ j.val)) ⟨j.val % 1024 / 256, by omega⟩ + j.val % 256, hc.trans_lt j.isLt⟩ : Fin 2048) = j :=
    Fin.ext hc
  have e1 : (outAt m c (ix2 r j) : EReal)
      = (acc m (decide (1024 ≤ j.val)) ⟨j.val % 1024 / 256, by omega⟩ 3 c (ix2 r ⟨j.val % 256, Nat.mod_lt _ (by decide)⟩) : EReal)
        * Ideal.logistic (acc m (decide (1024 ≤ j.val)) ⟨j.val % 1024 / 256, by omega⟩ 3 c (ix2 r ⟨j.val % 256, Nat.mod_lt _ (by decide)⟩)) := by
    rw [ValueIdx.eq_ix2 (ix2 r _)]
    rfl
  rw [e1, mul_logistic, ha]
  exact congrArg (fun q => act (entry X W _ q)) hi

/-- The same at any index, through the place the index has in the whole. -/
theorem outAt_block (h : Cut m X W) (c : Dev nD) (i : (⟨2, ![512, 2048]⟩ : Shape).Idx)
    (hT : Layout.Tiles (⟨2, ![512, 2048]⟩ : Shape) ⟨2, ![2048, 2048]⟩ 0 4) :
    (outAt m c i : EReal) = act (entry X W (hT.idx c i 0) (hT.idx c i 1)) := by
  obtain ⟨r, j, rfl⟩ : ∃ (r : Fin 512) (j : Fin 2048), i = ix2 r j := ⟨i 0, i 1, ValueIdx.eq_ix2 i⟩
  exact outAt_at m X W h c r j

/-! ## The references' terms -/

theorem ofBits_one : Ideal.ofBits .f32 0x3F800000#32 = 1 := by simp [Ideal.ofBits, Ideal.ieee, -EReal.coe_mul]; norm_num
theorem ofBits_sixty : Ideal.ofBits .f32 0x42700000#32 = (60 : ℝ) := by
  simp [Ideal.ofBits, Ideal.ieee, -EReal.coe_mul]; norm_num
theorem ofBits_neg_sixty : Ideal.ofBits .f32 0xC2700000#32 = (-60 : ℝ) := by
  simp [Ideal.ofBits, Ideal.ieee, -EReal.coe_mul]; norm_num

/-- The unclipped reference's result. -/
def unclipped : Whole :=
  Host.divf (Host.dotGeneral Cert.UnclippedIdeal.dot_S2048x2048_S2048x2048_S2048x2048_1_0_0_1_n_n none X W)
    (addf (broadcastInDim Cert.UnclippedIdeal.S2048x2048 ![] Cert.UnclippedIdeal.Gen.bcast_S_S2048x2048
        (constant Cert.UnclippedIdeal.S_ .f32 0x3F800000#32))
      (Host.exp (Host.negf (Host.dotGeneral Cert.UnclippedIdeal.dot_S2048x2048_S2048x2048_S2048x2048_1_0_0_1_n_n none X W))))

/-- The reference's result. -/
def clipped : Whole :=
  Host.divf (Host.dotGeneral Cert.ReferenceIdeal.dot_S2048x2048_S2048x2048_S2048x2048_1_0_0_1_n_n none X W)
    (addf (broadcastInDim Cert.ReferenceIdeal.S2048x2048 ![] Cert.ReferenceIdeal.Gen.bcast_S_S2048x2048
        (constant Cert.ReferenceIdeal.S_ .f32 0x3F800000#32))
      (Host.exp (Host.negf (minimumf (broadcastInDim Cert.ReferenceIdeal.S2048x2048 ![] Cert.ReferenceIdeal.Gen.bcast_S_S2048x2048
          (id (constant Cert.ReferenceIdeal.S_ .f32 0x42700000#32)))
        (maximumf (broadcastInDim Cert.ReferenceIdeal.S2048x2048 ![] Cert.ReferenceIdeal.Gen.bcast_S_S2048x2048
            (id (constant Cert.ReferenceIdeal.S_ .f32 0xC2700000#32)))
          (Host.dotGeneral Cert.ReferenceIdeal.dot_S2048x2048_S2048x2048_S2048x2048_1_0_0_1_n_n none X W))))))

theorem dot_unclipped (i : (⟨2, ![2048, 2048]⟩ : Shape).Idx) :
    (Host.dotGeneral Cert.UnclippedIdeal.dot_S2048x2048_S2048x2048_S2048x2048_1_0_0_1_n_n none X W i : EReal)
      = entry X W (i 0) (i 1) := by
  simp only [pointwise, entry]
  exact zero_add _

theorem dot_clipped (i : (⟨2, ![2048, 2048]⟩ : Shape).Idx) :
    (Host.dotGeneral Cert.ReferenceIdeal.dot_S2048x2048_S2048x2048_S2048x2048_1_0_0_1_n_n none X W i : EReal)
      = entry X W (i 0) (i 1) := by
  simp only [pointwise, entry]
  exact zero_add _

theorem dot_mask (i : (⟨2, ![2048, 2048]⟩ : Shape).Idx) :
    (Host.dotGeneral Cert.On_clip_idle.dot_S2048x2048_S2048x2048_S2048x2048_1_0_0_1_n_n none X W i : EReal)
      = entry X W (i 0) (i 1) := by
  simp only [pointwise, entry]
  exact zero_add _

theorem unclipped_at (i : (⟨2, ![2048, 2048]⟩ : Shape).Idx) :
    (unclipped X W i : EReal) = act (entry X W (i 0) (i 1)) := by
  rw [← dot_unclipped X W i]
  have e1 : (unclipped X W i : EReal)
      = Ideal.div (Host.dotGeneral Cert.UnclippedIdeal.dot_S2048x2048_S2048x2048_S2048x2048_1_0_0_1_n_n none X W i)
        (Ideal.ofBits .f32 0x3F800000#32
          + Ideal.exp (-(Host.dotGeneral Cert.UnclippedIdeal.dot_S2048x2048_S2048x2048_S2048x2048_1_0_0_1_n_n none X W i))) := rfl
  rw [e1, ofBits_one]
  rfl

/-- The clip to the two bounds. -/
def clip (y : EReal) : EReal := min ((60 : ℝ) : EReal) (max ((-60 : ℝ) : EReal) y)

theorem clipped_at (i : (⟨2, ![2048, 2048]⟩ : Shape).Idx) :
    (clipped X W i : EReal)
      = Ideal.div (entry X W (i 0) (i 1)) (1 + Ideal.exp (-(clip (entry X W (i 0) (i 1))))) := by
  rw [← dot_clipped X W i]
  have e1 : (clipped X W i : EReal)
      = Ideal.div (Host.dotGeneral Cert.ReferenceIdeal.dot_S2048x2048_S2048x2048_S2048x2048_1_0_0_1_n_n none X W i)
        (Ideal.ofBits .f32 0x3F800000#32
          + Ideal.exp (-(min (Ideal.ofBits .f32 0x42700000#32) (max (Ideal.ofBits .f32 0xC2700000#32)
            (Host.dotGeneral Cert.ReferenceIdeal.dot_S2048x2048_S2048x2048_S2048x2048_1_0_0_1_n_n none X W i))))) := rfl
  rw [e1, ofBits_one, ofBits_sixty, ofBits_neg_sixty]
  rfl

/-- Where the mask holds the product's entry lies within the bounds, so the clip leaves it. -/
theorem clip_of_mask (i : (⟨2, ![2048, 2048]⟩ : Shape).Idx)
    (h : Cert.On_clip_idle.fn (F := Ideal) X W i = 1#1) :
    clip (entry X W (i 0) (i 1)) = entry X W (i 0) (i 1) := by
  have e1 : Cert.On_clip_idle.fn (F := Ideal) X W i
      = Ideal.cmp .ole
        (max (Host.dotGeneral Cert.On_clip_idle.dot_S2048x2048_S2048x2048_S2048x2048_1_0_0_1_n_n none X W i : EReal)
          (-(Host.dotGeneral Cert.On_clip_idle.dot_S2048x2048_S2048x2048_S2048x2048_1_0_0_1_n_n none X W i : EReal)))
        (Ideal.ofBits .f32 0x42700000#32) := rfl
  rw [e1, dot_mask, ofBits_sixty] at h
  generalize entry X W (i 0) (i 1) = y at h ⊢
  have hle : max y (-y) ≤ ((60 : ℝ) : EReal) := by
    by_contra hn
    simp [Ideal.cmp, hn] at h
  have h1 : y ≤ ((60 : ℝ) : EReal) := (le_max_left _ _).trans hle
  have h2 : ((-60 : ℝ) : EReal) ≤ y := by
    rw [EReal.coe_neg]
    exact EReal.neg_le.mp ((le_max_right _ _).trans hle)
  rw [clip, max_eq_right h2, min_eq_right h1]

theorem clipped_of_mask (i : (⟨2, ![2048, 2048]⟩ : Shape).Idx) (h : Cert.On_clip_idle.fn (F := Ideal) X W i = 1#1) :
    (clipped X W i : EReal) = act (entry X W (i 0) (i 1)) := by
  rw [clipped_at, clip_of_mask X W i h]
  rfl

end Cert.Ring

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.On_clip_idle
public import proofs.«01_k».proof.Proof.Run
public import proofs.«01_k».proof.Proof.Value
public import Idealize.ShloMosaic.Lib.Quiescent

@[expose] public section

noncomputable section

namespace Cert.Proof

open Idealize.ShloMosaic Idealize.ShloMosaic.TcCoe Idealize.SL.Sem
open Cert.Ring (run_main outAt_block unclipped_at clipped_of_mask unclipped clipped)

/-- The idealized kernel's frame: the run with the result's value left out. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The two programs' bodies are one text, so their tables are equal entry by entry. -/
theorem bodies_eq : Cert.Kernel.defs₀ (F := Bits) = Cert.KernelIdeal.defs₀ (F := Bits) := by
  funext p l a
  match p with
  | .tc =>
    match l, a with
    | ⟨0, _⟩, (t, s) => rfl
  | .scScalar _ => rfl
  | .scVector _ _ => rfl

theorem defs_eq : Cert.Kernel.defs (F := Bits) = Cert.KernelIdeal.defs (F := Bits) :=
  congrArg (Pipeline.defs (Cert.KernelIdeal.pcfgs (F := Bits))) bodies_eq

/-- The kernel's own frame: no operation was rewritten, so it is the same run at machine floats. -/
theorem frame_kernel : Cert.quiescent_Kernel := fun m ρ _ => by
  rw [defs_eq]
  exact (θ_run Cert.KernelIdeal.defs _ _).mono (fun _ h => ⟨fun c => (h.1 c).2, h.2⟩) (run_main (F := Bits) m ρ)

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem frame_unclipped : Cert.quiescent_UnclippedIdeal := fun m ρ _ =>
  (θ_run Cert.UnclippedIdeal.defs _ _).mono (fun r h => ⟨fun c => (h c).2, sem_eq_zero_of_no_sems rfl r.2⟩)
    (Cert.UnclippedIdeal.Value.run (F := Ideal) m ρ)

/-- The kernel computes the unclipped activation of the whole product. -/
theorem value_unclipped : Cert.algebraic_KernelIdeal_UnclippedIdeal := fun m ρ m' ρ' _ hin =>
  ⟨unclipped _ _,
    (θ_run Cert.KernelIdeal.defs _ _).mono (fun r h c =>
      ⟨(h.1 c).1.trans (funext fun i => (outAt_block m _ _ hin c i (by decide)).trans (unclipped_at _ _ _).symm), (h.1 c).2⟩)
      (run_main (F := Ideal) m ρ),
    (θ_run Cert.UnclippedIdeal.defs _ _).mono (fun r h => h 0) (Cert.UnclippedIdeal.Value.run (F := Ideal) m' ρ')⟩

/-- It computes the reference's result wherever the clip leaves the product unchanged. -/
theorem value_clipped : Cert.algebraic_KernelIdeal_ReferenceIdeal_on_clip_idle := fun m ρ m' ρ' _ hin =>
  ⟨clipped _ _,
    (θ_run Cert.KernelIdeal.defs _ _).mono (fun r h c =>
      ⟨fun i hi => (congrFun (h.1 c).1 i).trans ((outAt_block m _ _ hin c i (by decide)).trans (clipped_of_mask _ _ _ hi).symm), (h.1 c).2⟩)
      (run_main (F := Ideal) m ρ),
    (θ_run Cert.ReferenceIdeal.defs _ _).mono (fun r h => ⟨fun i _ => congrFun (h 0).1 i, (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.UnclippedIdeal.Gen.facts,
    Cert.On_clip_idle.Gen.facts, frame_kernel, frame_kernelIdeal, frame_reference, frame_unclipped, trivial, value_clipped,
    value_unclipped⟩

end Cert.Proof

end
